-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "knot0" .f32 0xC00CCCCD#32 ((-11 / 5 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v269) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S65536x256 : Shape := ⟨2, ![65536, 256]⟩
abbrev S512x256 : Shape := ⟨2, ![512, 256]⟩
abbrev S512x256x8 : Shape := ⟨3, ![512, 256, 8]⟩
abbrev S256x512 : Shape := ⟨2, ![256, 512]⟩
abbrev S256x512x8 : Shape := ⟨3, ![256, 512, 8]⟩
abbrev S256 : Shape := ⟨1, ![256]⟩
abbrev S_ : Shape := ⟨0, ![]⟩
abbrev S512x256x1 : Shape := ⟨3, ![512, 256, 1]⟩
abbrev S8x256x512 : Shape := ⟨3, ![8, 256, 512]⟩
abbrev S2048x512 : Shape := ⟨2, ![2048, 512]⟩
abbrev S256x512x1 : Shape := ⟨3, ![256, 512, 1]⟩
abbrev S8x512x256 : Shape := ⟨3, ![8, 512, 256]⟩
abbrev S4096x256 : Shape := ⟨2, ![4096, 256]⟩
abbrev S1x256 : Shape := ⟨2, ![1, 256]⟩
abbrev S512x512 : Shape := ⟨2, ![512, 512]⟩
abbrev S512x2048 : Shape := ⟨2, ![512, 2048]⟩
abbrev S512x4096 : Shape := ⟨2, ![512, 4096]⟩
abbrev S512 : Shape := ⟨1, ![512]⟩
abbrev S512x1 : Shape := ⟨2, ![512, 1]⟩

abbrev nBuf : Space → Nat
  | .hbm => 38
  | .vmem => 10
  | .smem => 0
  | _ => 0

abbrev bufTy : (tb : Table) → Fin (tcTables nBuf tb) → BufTy
  | .hbm, ⟨0, _⟩ => ⟨S65536x256, .f32⟩
  | .hbm, ⟨1, _⟩ => ⟨S512x256, .f32⟩
  | .hbm, ⟨2, _⟩ => ⟨S512x256x8, .f32⟩
  | .hbm, ⟨3, _⟩ => ⟨S512x256, .f32⟩
  | .hbm, ⟨4, _⟩ => ⟨S256x512, .f32⟩
  | .hbm, ⟨5, _⟩ => ⟨S256x512x8, .f32⟩
  | .hbm, ⟨6, _⟩ => ⟨S256x512, .f32⟩
  | .hbm, ⟨7, _⟩ => ⟨S256, .f32⟩
  | .hbm, ⟨8, _⟩ => ⟨S256, .f32⟩
  | .hbm, ⟨9, _⟩ => ⟨S256x512, .f32⟩
  | .hbm, ⟨10, _⟩ => ⟨S256x512, .bf16⟩
  | .hbm, ⟨11, _⟩ => ⟨S512x256, .f32⟩
  | .hbm, ⟨12, _⟩ => ⟨S512x256, .bf16⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256x1, .f32⟩
  | .hbm, ⟨19, _⟩ => ⟨S512x256x8, .f32⟩
  | .hbm, ⟨20, _⟩ => ⟨S512x256x8, .f32⟩
  | .hbm, ⟨21, _⟩ => ⟨S8x256x512, .f32⟩
  | .hbm, ⟨22, _⟩ => ⟨S2048x512, .f32⟩
  | .hbm, ⟨23, _⟩ => ⟨S2048x512, .bf16⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512x1, .f32⟩
  | .hbm, ⟨30, _⟩ => ⟨S256x512x8, .f32⟩
  | .hbm, ⟨31, _⟩ => ⟨S256x512x8, .f32⟩
  | .hbm, ⟨32, _⟩ => ⟨S8x512x256, .f32⟩
  | .hbm, ⟨33, _⟩ => ⟨S4096x256, .f32⟩
  | .hbm, ⟨34, _⟩ => ⟨S4096x256, .bf16⟩
  | .hbm, ⟨35, _⟩ => ⟨S1x256, .f32⟩
  | .hbm, ⟨36, _⟩ => ⟨S1x256, .f32⟩
  | .hbm, ⟨37, _⟩ => ⟨S65536x256, .f32⟩
  | .local _ .vmem, ⟨0, _⟩ => ⟨S512x256, .f32⟩
  | .local _ .vmem, ⟨1, _⟩ => ⟨S512x256, .f32⟩
  | .local _ .vmem, ⟨2, _⟩ => ⟨S256x512, .bf16⟩
  | .local _ .vmem, ⟨3, _⟩ => ⟨S2048x512, .bf16⟩
  | .local _ .vmem, ⟨4, _⟩ => ⟨S512x256, .bf16⟩
  | .local _ .vmem, ⟨5, _⟩ => ⟨S4096x256, .bf16⟩
  | .local _ .vmem, ⟨6, _⟩ => ⟨S1x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "knot0" => some ((-11 / 5 : ℝ) : EReal)
  | _ => none
-- ==== ReferenceIdeal.lean ====
abbrev S65536x256 : Shape := ⟨2, ![65536, 256]⟩
abbrev S512x256 : Shape := ⟨2, ![512, 256]⟩
abbrev S512x256x8 : Shape := ⟨3, ![512, 256, 8]⟩
abbrev S256x512 : Shape := ⟨2, ![256, 512]⟩
abbrev S256x512x8 : Shape := ⟨3, ![256, 512, 8]⟩
abbrev S256 : Shape := ⟨1, ![256]⟩
abbrev S_ : Shape := ⟨0, ![]⟩
abbrev S65536x512 : Shape := ⟨2, ![65536, 512]⟩
abbrev S512x256x1 : Shape := ⟨3, ![512, 256, 1]⟩
abbrev S12 : Shape := ⟨1, ![12]⟩
abbrev S256x12 : Shape := ⟨2, ![256, 12]⟩
abbrev S65536x256x1 : Shape := ⟨3, ![65536, 256, 1]⟩
abbrev S256x11 : Shape := ⟨2, ![256, 11]⟩
abbrev S1x256x11 : Shape := ⟨3, ![1, 256, 11]⟩
abbrev S65536x256x11 : Shape := ⟨3, ![65536, 256, 11]⟩
abbrev S256x10 : Shape := ⟨2, ![256, 10]⟩
abbrev S1x256x10 : Shape := ⟨3, ![1, 256, 10]⟩
abbrev S65536x256x10 : Shape := ⟨3, ![65536, 256, 10]⟩
abbrev S256x9 : Shape := ⟨2, ![256, 9]⟩
abbrev S1x256x9 : Shape := ⟨3, ![1, 256, 9]⟩
abbrev S65536x256x9 : Shape := ⟨3, ![65536, 256, 9]⟩
abbrev S256x8 : Shape := ⟨2, ![256, 8]⟩
abbrev S1x256x8 : Shape := ⟨3, ![1, 256, 8]⟩
abbrev S65536x256x8 : Shape := ⟨3, ![65536, 256, 8]⟩
abbrev S256x512x1 : Shape := ⟨3, ![256, 512, 1]⟩
abbrev S512x12 : Shape := ⟨2, ![512, 12]⟩
abbrev S65536x512x1 : Shape := ⟨3, ![65536, 512, 1]⟩
abbrev S512x11 : Shape := ⟨2, ![512, 11]⟩
abbrev S1x512x11 : Shape := ⟨3, ![1, 512, 11]⟩
abbrev S65536x512x11 : Shape := ⟨3, ![65536, 512, 11]⟩
abbrev S512x10 : Shape := ⟨2, ![512, 10]⟩
abbrev S1x512x10 : Shape := ⟨3, ![1, 512, 10]⟩
abbrev S65536x512x10 : Shape := ⟨3, ![65536, 512, 10]⟩
abbrev S512x9 : Shape := ⟨2, ![512, 9]⟩
abbrev S1x512x9 : Shape := ⟨3, ![1, 512, 9]⟩
abbrev S65536x512x9 : Shape := ⟨3, ![65536, 512, 9]⟩
abbrev S512x8 : Shape := ⟨2, ![512, 8]⟩
abbrev S1x512x8 : Shape := ⟨3, ![1, 512, 8]⟩
abbrev S65536x512x8 : Shape := ⟨3, ![65536, 512, 8]⟩
abbrev S65536 : Shape := ⟨1, ![65536]⟩
abbrev S65536x1 : Shape := ⟨2, ![65536, 1]⟩
abbrev S1x256 : Shape := ⟨2, ![1, 256]⟩

abbrev nBuf : Space → Nat
  | .hbm => 300
  | .vmem => 0
  | .smem => 0
  | _ => 0

abbrev hbmTy0_0 (i : Nat) : BufTy := match i % 128 with
  | 0 => ⟨S65536x256, .f32⟩
  | 1 => ⟨S512x256, .f32⟩
  | 2 => ⟨S512x256x8, .f32⟩
  | 3 => ⟨S512x256, .f32⟩
  | 4 => ⟨S256x512, .f32⟩
  | 5 => ⟨S256x512x8, .f32⟩
  | 6 => ⟨S256x512, .f32⟩
  | 7 => ⟨S256, .f32⟩
  | 8 => ⟨S256, .f32⟩
  | 9 => ⟨S65536x256, .f32⟩
  | 10 => ⟨S65536x256, .f32⟩
  | 11 => ⟨S_, .f32⟩
  | 12 => ⟨S65536x256, .f32⟩
  | 13 => ⟨S65536x256, .f32⟩
  | 14 => ⟨S65536x256, .f32⟩
  | 15 => ⟨S_, .f32⟩
  | 16 => ⟨S65536x256, .f32⟩
  | 17 => ⟨S65536x256, .f32⟩
  | 18 => ⟨S65536x256, .f32⟩
  | 19 => ⟨S_, .f32⟩
  | 20 => ⟨S65536x256, .f32⟩
  | 21 => ⟨S65536x256, .f32⟩
  | 22 => ⟨S_, .f32⟩
  | 23 => ⟨S65536x256, .f32⟩
  | 24 => ⟨S65536x256, .f32⟩
  | 25 => ⟨S65536x256, .f32⟩
  | 26 => ⟨S256x512, .f32⟩
  | 27 => ⟨S65536x512, .f32⟩
  | 28 => ⟨S512x256x1, .f32⟩
  | 29 => ⟨S512x256x8, .f32⟩
  | 30 => ⟨S512x256x8, .f32⟩
  | 31 => ⟨S_, .f32⟩
  | 32 => ⟨S_, .f32⟩
  | 33 => ⟨S_, .f32⟩
  | 34 => ⟨S12, .f32⟩
  | 35 => ⟨S_, .f32⟩
  | 36 => ⟨S12, .f32⟩
  | 37 => ⟨S12, .f32⟩
  | 38 => ⟨S12, .f32⟩
  | 39 => ⟨S12, .f32⟩
  | 40 => ⟨S_, .f32⟩
  | 41 => ⟨S12, .f32⟩
  | 42 => ⟨S12, .f32⟩
  | 43 => ⟨S256x12, .f32⟩
  | 44 => ⟨S65536x256x1, .f32⟩
  | 45 => ⟨S256x11, .f32⟩
  | 46 => ⟨S1x256x11, .f32⟩
  | 47 => ⟨S65536x256x11, .f32⟩
  | 48 => ⟨S65536x256x11, .f32⟩
  | 49 => ⟨S65536x256x11, .i1⟩
  | 50 => ⟨S256x11, .f32⟩
  | 51 => ⟨S1x256x11, .f32⟩
  | 52 => ⟨S65536x256x11, .f32⟩
  | 53 => ⟨S65536x256x11, .f32⟩
  | 54 => ⟨S65536x256x11, .i1⟩
  | 55 => ⟨S65536x256x11, .i1⟩
  | 56 => ⟨S65536x256x11, .f32⟩
  | 57 => ⟨S256x10, .f32⟩
  | 58 => ⟨S1x256x10, .f32⟩
  | 59 => ⟨S65536x256x10, .f32⟩
  | 60 => ⟨S65536x256x10, .f32⟩
  | 61 => ⟨S65536x256x10, .f32⟩
  | 62 => ⟨S256x10, .f32⟩
  | 63 => ⟨S256x10, .f32⟩
  | 64 => ⟨S256x10, .f32⟩
  | 65 => ⟨S1x256x10, .f32⟩
  | 66 => ⟨S65536x256x10, .f32⟩
  | 67 => ⟨S65536x256x10, .f32⟩
  | 68 => ⟨S256x10, .f32⟩
  | 69 => ⟨S1x256x10, .f32⟩
  | 70 => ⟨S65536x256x10, .f32⟩
  | 71 => ⟨S65536x256x10, .f32⟩
  | 72 => ⟨S65536x256x10, .f32⟩
  | 73 => ⟨S256x10, .f32⟩
  | 74 => ⟨S256x10, .f32⟩
  | 75 => ⟨S256x10, .f32⟩
  | 76 => ⟨S1x256x10, .f32⟩
  | 77 => ⟨S65536x256x10, .f32⟩
  | 78 => ⟨S65536x256x10, .f32⟩
  | 79 => ⟨S65536x256x10, .f32⟩
  | 80 => ⟨S65536x256x10, .f32⟩
  | 81 => ⟨S65536x256x10, .f32⟩
  | 82 => ⟨S65536x256x10, .f32⟩
  | 83 => ⟨S65536x256x10, .f32⟩
  | 84 => ⟨S256x9, .f32⟩
  | 85 => ⟨S1x256x9, .f32⟩
  | 86 => ⟨S65536x256x9, .f32⟩
  | 87 => ⟨S65536x256x9, .f32⟩
  | 88 => ⟨S65536x256x9, .f32⟩
  | 89 => ⟨S256x9, .f32⟩
  | 90 => ⟨S256x9, .f32⟩
  | 91 => ⟨S256x9, .f32⟩
  | 92 => ⟨S1x256x9, .f32⟩
  | 93 => ⟨S65536x256x9, .f32⟩
  | 94 => ⟨S65536x256x9, .f32⟩
  | 95 => ⟨S256x9, .f32⟩
  | 96 => ⟨S1x256x9, .f32⟩
  | 97 => ⟨S65536x256x9, .f32⟩
  | 98 => ⟨S65536x256x9, .f32⟩
  | 99 => ⟨S65536x256x9, .f32⟩
  | 100 => ⟨S256x9, .f32⟩
  | 101 => ⟨S256x9, .f32⟩
  | 102 => ⟨S256x9, .f32⟩
  | 103 => ⟨S1x256x9, .f32⟩
  | 104 => ⟨S65536x256x9, .f32⟩
  | 105 => ⟨S65536x256x9, .f32⟩
  | 106 => ⟨S65536x256x9, .f32⟩
  | 107 => ⟨S65536x256x9, .f32⟩
  | 108 => ⟨S65536x256x9, .f32⟩
  | 109 => ⟨S65536x256x9, .f32⟩
  | 110 => ⟨S65536x256x9, .f32⟩
  | 111 => ⟨S256x8, .f32⟩
  | 112 => ⟨S1x256x8, .f32⟩
  | 113 => ⟨S65536x256x8, .f32⟩
  | 114 => ⟨S65536x256x8, .f32⟩
  | 115 => ⟨S65536x256x8, .f32⟩
  | 116 => ⟨S256x8, .f32⟩
  | 117 => ⟨S256x8, .f32⟩
  | 118 => ⟨S256x8, .f32⟩
  | 119 => ⟨S1x256x8, .f32⟩
  | 120 => ⟨S65536x256x8, .f32⟩
  | 121 => ⟨S65536x256x8, .f32⟩
  | 122 => ⟨S256x8, .f32⟩
  | 123 => ⟨S1x256x8, .f32⟩
  | 124 => ⟨S65536x256x8, .f32⟩
  | 125 => ⟨S65536x256x8, .f32⟩
  | 126 => ⟨S65536x256x8, .f32⟩
  | 127 => ⟨S256x8, .f32⟩
  | _ => ⟨S65536x256, .f32⟩

abbrev hbmTy0_1 (i : Nat) : BufTy := match i % 128 with
  | 0 => ⟨S256x8, .f32⟩
  | 1 => ⟨S256x8, .f32⟩
  | 2 => ⟨S1x256x8, .f32⟩
  | 3 => ⟨S65536x256x8, .f32⟩
  | 4 => ⟨S65536x256x8, .f32⟩
  | 5 => ⟨S65536x256x8, .f32⟩
  | 6 => ⟨S65536x256x8, .f32⟩
  | 7 => ⟨S65536x256x8, .f32⟩
  | 8 => ⟨S65536x256x8, .f32⟩
  | 9 => ⟨S65536x256x8, .f32⟩
  | 10 => ⟨S65536x512, .f32⟩
  | 11 => ⟨S65536x512, .f32⟩
  | 12 => ⟨S65536x512, .f32⟩
  | 13 => ⟨S65536x512, .f32⟩
  | 14 => ⟨S_, .f32⟩
  | 15 => ⟨S65536x512, .f32⟩
  | 16 => ⟨S65536x512, .f32⟩
  | 17 => ⟨S65536x512, .f32⟩
  | 18 => ⟨S_, .f32⟩
  | 19 => ⟨S65536x512, .f32⟩
  | 20 => ⟨S65536x512, .f32⟩
  | 21 => ⟨S65536x512, .f32⟩
  | 22 => ⟨S_, .f32⟩
  | 23 => ⟨S65536x512, .f32⟩
  | 24 => ⟨S65536x512, .f32⟩
  | 25 => ⟨S_, .f32⟩
  | 26 => ⟨S65536x512, .f32⟩
  | 27 => ⟨S65536x512, .f32⟩
  | 28 => ⟨S65536x512, .f32⟩
  | 29 => ⟨S512x256, .f32⟩
  | 30 => ⟨S65536x256, .f32⟩
  | 31 => ⟨S256x512x1, .f32⟩
  | 32 => ⟨S256x512x8, .f32⟩
  | 33 => ⟨S256x512x8, .f32⟩
  | 34 => ⟨S_, .f32⟩
  | 35 => ⟨S_, .f32⟩
  | 36 => ⟨S_, .f32⟩
  | 37 => ⟨S12, .f32⟩
  | 38 => ⟨S_, .f32⟩
  | 39 => ⟨S12, .f32⟩
  | 40 => ⟨S12, .f32⟩
  | 41 => ⟨S12, .f32⟩
  | 42 => ⟨S12, .f32⟩
  | 43 => ⟨S_, .f32⟩
  | 44 => ⟨S12, .f32⟩
  | 45 => ⟨S12, .f32⟩
  | 46 => ⟨S512x12, .f32⟩
  | 47 => ⟨S65536x512x1, .f32⟩
  | 48 => ⟨S512x11, .f32⟩
  | 49 => ⟨S1x512x11, .f32⟩
  | 50 => ⟨S65536x512x11, .f32⟩
  | 51 => ⟨S65536x512x11, .f32⟩
  | 52 => ⟨S65536x512x11, .i1⟩
  | 53 => ⟨S512x11, .f32⟩
  | 54 => ⟨S1x512x11, .f32⟩
  | 55 => ⟨S65536x512x11, .f32⟩
  | 56 => ⟨S65536x512x11, .f32⟩
  | 57 => ⟨S65536x512x11, .i1⟩
  | 58 => ⟨S65536x512x11, .i1⟩
  | 59 => ⟨S65536x512x11, .f32⟩
  | 60 => ⟨S512x10, .f32⟩
  | 61 => ⟨S1x512x10, .f32⟩
  | 62 => ⟨S65536x512x10, .f32⟩
  | 63 => ⟨S65536x512x10, .f32⟩
  | 64 => ⟨S65536x512x10, .f32⟩
  | 65 => ⟨S512x10, .f32⟩
  | 66 => ⟨S512x10, .f32⟩
  | 67 => ⟨S512x10, .f32⟩
  | 68 => ⟨S1x512x10, .f32⟩
  | 69 => ⟨S65536x512x10, .f32⟩
  | 70 => ⟨S65536x512x10, .f32⟩
  | 71 => ⟨S512x10, .f32⟩
  | 72 => ⟨S1x512x10, .f32⟩
  | 73 => ⟨S65536x512x10, .f32⟩
  | 74 => ⟨S65536x512x10, .f32⟩
  | 75 => ⟨S65536x512x10, .f32⟩
  | 76 => ⟨S512x10, .f32⟩
  | 77 => ⟨S512x10, .f32⟩
  | 78 => ⟨S512x10, .f32⟩
  | 79 => ⟨S1x512x10, .f32⟩
  | 80 => ⟨S65536x512x10, .f32⟩
  | 81 => ⟨S65536x512x10, .f32⟩
  | 82 => ⟨S65536x512x10, .f32⟩
  | 83 => ⟨S65536x512x10, .f32⟩
  | 84 => ⟨S65536x512x10, .f32⟩
  | 85 => ⟨S65536x512x10, .f32⟩
  | 86 => ⟨S65536x512x10, .f32⟩
  | 87 => ⟨S512x9, .f32⟩
  | 88 => ⟨S1x512x9, .f32⟩
  | 89 => ⟨S65536x512x9, .f32⟩
  | 90 => ⟨S65536x512x9, .f32⟩
  | 91 => ⟨S65536x512x9, .f32⟩
  | 92 => ⟨S512x9, .f32⟩
  | 93 => ⟨S512x9, .f32⟩
  | 94 => ⟨S512x9, .f32⟩
  | 95 => ⟨S1x512x9, .f32⟩
  | 96 => ⟨S65536x512x9, .f32⟩
  | 97 => ⟨S65536x512x9, .f32⟩
  | 98 => ⟨S512x9, .f32⟩
  | 99 => ⟨S1x512x9, .f32⟩
  | 100 => ⟨S65536x512x9, .f32⟩
  | 101 => ⟨S65536x512x9, .f32⟩
  | 102 => ⟨S65536x512x9, .f32⟩
  | 103 => ⟨S512x9, .f32⟩
  | 104 => ⟨S512x9, .f32⟩
  | 105 => ⟨S512x9, .f32⟩
  | 106 => ⟨S1x512x9, .f32⟩
  | 107 => ⟨S65536x512x9, .f32⟩
  | 108 => ⟨S65536x512x9, .f32⟩
  | 109 => ⟨S65536x512x9, .f32⟩
  | 110 => ⟨S65536x512x9, .f32⟩
  | 111 => ⟨S65536x512x9, .f32⟩
  | 112 => ⟨S65536x512x9, .f32⟩
  | 113 => ⟨S65536x512x9, .f32⟩
  | 114 => ⟨S512x8, .f32⟩
  | 115 => ⟨S1x512x8, .f32⟩
  | 116 => ⟨S65536x512x8, .f32⟩
  | 117 => ⟨S65536x512x8, .f32⟩
  | 118 => ⟨S65536x512x8, .f32⟩
  | 119 => ⟨S512x8, .f32⟩
  | 120 => ⟨S512x8, .f32⟩
  | 121 => ⟨S512x8, .f32⟩
  | 122 => ⟨S1x512x8, .f32⟩
  | 123 => ⟨S65536x512x8, .f32⟩
  | 124 => ⟨S65536x512x8, .f32⟩
  | 125 => ⟨S512x8, .f32⟩
  | 126 => ⟨S1x512x8, .f32⟩
  | 127 => ⟨S65536x512x8, .f32⟩
  | _ => ⟨S65536x256, .f32⟩

abbrev hbmTy0_2 (i : Nat) : BufTy := match i % 128 with
  | 0 => ⟨S65536x512x8, .f32⟩
  | 1 => ⟨S65536x512x8, .f32⟩
  | 2 => ⟨S512x8, .f32⟩
  | 3 => ⟨S512x8, .f32⟩
  | 4 => ⟨S512x8, .f32⟩
  | 5 => ⟨S1x512x8, .f32⟩
  | 6 => ⟨S65536x512x8, .f32⟩
  | 7 => ⟨S65536x512x8, .f32⟩
  | 8 => ⟨S65536x512x8, .f32⟩
  | 9 => ⟨S65536x512x8, .f32⟩
  | 10 => ⟨S65536x512x8, .f32⟩
  | 11 => ⟨S65536x512x8, .f32⟩
  | 12 => ⟨S65536x512x8, .f32⟩
  | 13 => ⟨S65536x256, .f32⟩
  | 14 => ⟨S65536x256, .f32⟩
  | 15 => ⟨S_, .f32⟩
  | 16 => ⟨S65536, .f32⟩
  | 17 => ⟨S65536x1, .f32⟩
  | 18 => ⟨S_, .f32⟩
  | 19 => ⟨S65536x1, .f32⟩
  | 20 => ⟨S65536x1, .f32⟩
  | 21 => ⟨S65536x256, .f32⟩
  | 22 => ⟨S65536x256, .f32⟩
  | 23 => ⟨S65536x256, .f32⟩
  | 24 => ⟨S_, .f32⟩
  | 25 => ⟨S65536, .f32⟩
  | 26 => ⟨S65536x1, .f32⟩
  | 27 => ⟨S_, .f32⟩
  | 28 => ⟨S65536x1, .f32⟩
  | 29 => ⟨S65536x1, .f32⟩
  | 30 => ⟨S65536x256, .f32⟩
  | 31 => ⟨S65536x256, .f32⟩
  | 32 => ⟨S_, .f32⟩
  | 33 => ⟨S65536x1, .f32⟩
  | 34 => ⟨S65536x1, .f32⟩
  | 35 => ⟨S65536x1, .f32⟩
  | 36 => ⟨S65536x256, .f32⟩
  | 37 => ⟨S65536x256, .f32⟩
  | 38 => ⟨S1x256, .f32⟩
  | 39 => ⟨S65536x256, .f32⟩
  | 40 => ⟨S65536x256, .f32⟩
  | 41 => ⟨S1x256, .f32⟩
  | 42 => ⟨S65536x256, .f32⟩
  | 43 => ⟨S65536x256, .f32⟩
  | _ => ⟨S65536x256, .f32⟩

abbrev hbmTy (i : Nat) : BufTy := match i / 128 with
  | 0 => hbmTy0_0 i
  | 1 => hbmTy0_1 i
  | 2 => hbmTy0_2 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_cst_7 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_cst_8 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_cst_9 : Ref sig .tc := ⟨.hbm, 150, rfl⟩
abbrev main_v131 : Ref sig .tc := ⟨.hbm, 151, rfl⟩
abbrev main_v132 : Ref sig .tc := ⟨.hbm, 152, rfl⟩
abbrev main_cst_10 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_cst_11 : Ref sig .tc := ⟨.hbm, 162, rfl⟩
abbrev main_cst_12 : Ref sig .tc := ⟨.hbm, 163, rfl⟩
abbrev main_v141 : Ref sig .tc := ⟨.hbm, 164, rfl⟩
abbrev main_v142 : Ref sig .tc := ⟨.hbm, 165, rfl⟩
abbrev main_cst_13 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_cst_14 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_v214 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩
abbrev main_v223 : Ref sig .tc := ⟨.hbm, 248, rfl⟩
abbrev main_v224 : Ref sig .tc := ⟨.hbm, 249, rfl⟩
abbrev main_v225 : Ref sig .tc := ⟨.hbm, 250, rfl⟩
abbrev main_v226 : Ref sig .tc := ⟨.hbm, 251, rfl⟩
abbrev main_v227 : Ref sig .tc := ⟨.hbm, 252, rfl⟩
abbrev main_v228 : Ref sig .tc := ⟨.hbm, 253, rfl⟩
abbrev main_v229 : Ref sig .tc := ⟨.hbm, 254, rfl⟩
abbrev main_v230 : Ref sig .tc := ⟨.hbm, 255, rfl⟩
abbrev main_v231 : Ref sig .tc := ⟨.hbm, 256, rfl⟩
abbrev main_v232 : Ref sig .tc := ⟨.hbm, 257, rfl⟩
abbrev main_v233 : Ref sig .tc := ⟨.hbm, 258, rfl⟩
abbrev main_v234 : Ref sig .tc := ⟨.hbm, 259, rfl⟩
abbrev main_v235 : Ref sig .tc := ⟨.hbm, 260, rfl⟩
abbrev main_v236 : Ref sig .tc := ⟨.hbm, 261, rfl⟩
abbrev main_v237 : Ref sig .tc := ⟨.hbm, 262, rfl⟩
abbrev main_v238 : Ref sig .tc := ⟨.hbm, 263, rfl⟩
abbrev main_v239 : Ref sig .tc := ⟨.hbm, 264, rfl⟩
abbrev main_v240 : Ref sig .tc := ⟨.hbm, 265, rfl⟩
abbrev main_v241 : Ref sig .tc := ⟨.hbm, 266, rfl⟩
abbrev main_v242 : Ref sig .tc := ⟨.hbm, 267, rfl⟩
abbrev main_v243 : Ref sig .tc := ⟨.hbm, 268, rfl⟩
abbrev main_v244 : Ref sig .tc := ⟨.hbm, 269, rfl⟩
abbrev main_v245 : Ref sig .tc := ⟨.hbm, 270, rfl⟩
abbrev main_cst_15 : Ref sig .tc := ⟨.hbm, 271, rfl⟩
abbrev main_v246 : Ref sig .tc := ⟨.hbm, 272, rfl⟩
abbrev main_v247 : Ref sig .tc := ⟨.hbm, 273, rfl⟩
abbrev main_cst_16 : Ref sig .tc := ⟨.hbm, 274, rfl⟩
abbrev main_v248 : Ref sig .tc := ⟨.hbm, 275, rfl⟩
abbrev main_v249 : Ref sig .tc := ⟨.hbm, 276, rfl⟩
abbrev main_v250 : Ref sig .tc := ⟨.hbm, 277, rfl⟩
abbrev main_v251 : Ref sig .tc := ⟨.hbm, 278, rfl⟩
abbrev main_v252 : Ref sig .tc := ⟨.hbm, 279, rfl⟩
abbrev main_cst_17 : Ref sig .tc := ⟨.hbm, 280, rfl⟩
abbrev main_v253 : Ref sig .tc := ⟨.hbm, 281, rfl⟩
abbrev main_v254 : Ref sig .tc := ⟨.hbm, 282, rfl⟩
abbrev main_cst_18 : Ref sig .tc := ⟨.hbm, 283, rfl⟩
abbrev main_v255 : Ref sig .tc := ⟨.hbm, 284, rfl⟩
abbrev main_v256 : Ref sig .tc := ⟨.hbm, 285, rfl⟩
abbrev main_v257 : Ref sig .tc := ⟨.hbm, 286, rfl⟩
abbrev main_v258 : Ref sig .tc := ⟨.hbm, 287, rfl⟩
abbrev main_cst_19 : Ref sig .tc := ⟨.hbm, 288, rfl⟩
abbrev main_v259 : Ref sig .tc := ⟨.hbm, 289, rfl⟩
abbrev main_v260 : Ref sig .tc := ⟨.hbm, 290, rfl⟩
abbrev main_v261 : Ref sig .tc := ⟨.hbm, 291, rfl⟩
abbrev main_v262 : Ref sig .tc := ⟨.hbm, 292, rfl⟩
abbrev main_v263 : Ref sig .tc := ⟨.hbm, 293, rfl⟩
abbrev main_v264 : Ref sig .tc := ⟨.hbm, 294, rfl⟩
abbrev main_v265 : Ref sig .tc := ⟨.hbm, 295, rfl⟩
abbrev main_v266 : Ref sig .tc := ⟨.hbm, 296, rfl⟩
abbrev main_v267 : Ref sig .tc := ⟨.hbm, 297, rfl⟩
abbrev main_v268 : Ref sig .tc := ⟨.hbm, 298, rfl⟩
abbrev main_v269 : Ref sig .tc := ⟨.hbm, 299, rfl⟩

abbrev nD : Nat := 1
abbrev τ : Topo := Topo.v7x

variable {F : FTy → Type} [FloatOps F]
-- ==== Proof.Consts.lean ====
/-
  The float words of the two programs as the extended reals they denote.
-/
module

public import proofs.«01_k».proof.KernelIdeal
public import Idealize.ShloMosaic.PureOps.Ideal.Laws
public import Mathlib.Tactic.NormNum

@[expose] public section

noncomputable section

namespace Cert.Kan

open Idealize.ShloMosaic

/-- The f32 words of the whole numbers below twelve. -/
def word : Fin 12 → BitVec 32 :=
  ![0x00000000#32, 0x3F800000#32, 0x40000000#32, 0x40400000#32, 0x40800000#32, 0x40A00000#32, 0x40C00000#32, 0x40E00000#32,
    0x41000000#32, 0x41100000#32, 0x41200000#32, 0x41300000#32]

/-- The word of a whole number below twelve denotes that number. -/
theorem ofBits_word (n : Fin 12) : Ideal.ofBits .f32 (word n) = ((n.val : ℝ) : EReal) := by
  fin_cases n <;> simp [word, Ideal.ofBits, Ideal.ieee, -EReal.coe_mul] <;> norm_num

/-- The f32 word of 5/2. -/
theorem ofBits_five_halves : Ideal.ofBits .f32 0x40200000#32 = ((5 / 2 : ℝ) : EReal) := by
  simp [Ideal.ofBits, Ideal.ieee, -EReal.coe_mul]; norm_num

/-- The f32 word of −3. -/
theorem ofBits_neg_three : Ideal.ofBits .f32 0xC0400000#32 = ((-3 : ℝ) : EReal) := by
  simp [Ideal.ofBits, Ideal.ieee, -EReal.coe_mul]; norm_num

/-- The f32 word of −1. -/
theorem ofBits_neg_one : Ideal.ofBits .f32 0xBF800000#32 = ((-1 : ℝ) : EReal) := by
  simp [Ideal.ofBits, Ideal.ieee, -EReal.coe_mul]; norm_num

/-- The f32 word of 1. -/
theorem ofBits_one : Ideal.ofBits .f32 0x3F800000#32 = ((1 : ℝ) : EReal) := (ofBits_word 1).trans (by norm_num)

/-- The f32 word of 2. -/
theorem ofBits_two : Ideal.ofBits .f32 0x40000000#32 = ((2 : ℝ) : EReal) := (ofBits_word 2).trans (by norm_num)

/-- The f32 word of 5. -/
theorem ofBits_five : Ideal.ofBits .f32 0x40A00000#32 = ((5 : ℝ) : EReal) := (ofBits_word 5).trans (by norm_num)

/-- The f32 word of 6. -/
theorem ofBits_six : Ideal.ofBits .f32 0x40C00000#32 = ((6 : ℝ) : EReal) := (ofBits_word 6).trans (by norm_num)

/-- The bf16 word of 0. -/
theorem ofBits_zero_bf16 : Ideal.ofBits .bf16 0x0000#16 = 0 := by
  simp [Ideal.ofBits, Ideal.ieee]

/-- The bf16 word of 1. -/
theorem ofBits_one_bf16 : Ideal.ofBits .bf16 0x3F80#16 = ((1 : ℝ) : EReal) := by
  simp [Ideal.ofBits, Ideal.ieee, -EReal.coe_mul]; norm_num

/-- The named first knot. -/
theorem named_knot0 : Named.named (F := Ideal) Cert.KernelIdeal.κ "knot0" (φ := .f32) 0xC00CCCCD#32 = ((-11 / 5 : ℝ) : EReal) :=
  IdealRules.named_const.ideal_named_scalar _ _ _ _ rfl

end Cert.Kan

end
-- ==== Proof.Spec.lean ====
/-
  The layer both programs compute, over the extended reals, one row at a time: the two forms of the cubic B-spline basis (the
  kernel's, without divisions and six times too large, and the Cox–de Boor recursion), the gelu of the base path, one layer as a
  base product plus a spline product, and the normalization of a row.
-/
module

public import Idealize.ShloMosaic.PureOps.Ideal.Laws

@[expose] public section

noncomputable section

namespace Cert.Kan

open Idealize.ShloMosaic
open scoped BigOperators

/-! ## The kernel's basis -/

/-- A coordinate of the knot axis: the distance from the first knot in knot spacings. -/
def coord (x : EReal) : EReal := (x - ((-11 / 5 : ℝ) : EReal)) * ((5 / 2 : ℝ) : EReal)

/-- The distance of a coordinate from knot `j`. -/
def dist (y : EReal) (j : ℕ) : EReal := y - ((j : ℝ) : EReal)

/-- The linear hat over three consecutive knots, written with the distances from the two outer ones. -/
def tent (d : ℕ → EReal) (i : ℕ) : EReal := max (min (d i) (0 - d (i + 2))) 0

/-- One step of the recursion without its divisions, from splines of degree `k - 1` to degree `k`. -/
def step (k : ℕ) (d b : ℕ → EReal) (i : ℕ) : EReal := d i * b i - d (i + k + 1) * b (i + 1)

/-- The cubic basis function `i` in the kernel's form, over given distances. -/
def cubic (d : ℕ → EReal) : ℕ → EReal := step 3 d (step 2 d (tent d))

/-- The cubic basis function `i` at a point, in the kernel's form. -/
def kbasis (x : EReal) : ℕ → EReal := cubic (dist (coord x))

/-! ## The reference's basis -/

/-- Knot `j` of the uniform grid. -/
def knot (j : ℕ) : EReal :=
  (((-3 : ℝ) : EReal) + ((j : ℝ) : EReal)) * Ideal.div ((2 : ℝ) : EReal) ((5 : ℝ) : EReal) + ((-1 : ℝ) : EReal)

/-- The indicator of the half-open knot interval `i`. -/
def ind (x : EReal) (i : ℕ) : EReal := if knot i ≤ x ∧ x < knot (i + 1) then 1 else 0

/-- One step of the Cox–de Boor recursion, from degree `k - 1` to degree `k`. -/
def rstep (k : ℕ) (x : EReal) (b : ℕ → EReal) (i : ℕ) : EReal :=
  Ideal.div (x - knot i) (knot (i + k) - knot i) * b i
    + Ideal.div (knot (i + k + 1) - x) (knot (i + k + 1) - knot (i + 1)) * b (i + 1)

/-- The cubic basis function `i` at a point, by the Cox–de Boor recursion. -/
def rbasis (x : EReal) : ℕ → EReal := rstep 3 x (rstep 2 x (rstep 1 x (ind x)))

/-! ## One layer, and the normalization -/

/-- The gelu, in its `tanh` form, with the printed constants. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-- One layer of the reference at output `o`: the gelu of the row against the base weights, plus its basis values against the
    scaled spline weights. -/
def layer {D O : ℕ} (x : Fin D → EReal) (bw : Fin O → Fin D → EReal) (w : Fin O → Fin D → Fin 8 → EReal) (s : Fin O → Fin D → EReal)
    (o : Fin O) : EReal :=
  (∑ c, gelu (x c) * bw o c) + ∑ g : Fin 8, ∑ c, rbasis (x c) g * (w o c g * s o c)

/-- One layer of the kernel at output `o`: the same, over the weights as its blocks hold them, the basis functions side by side. -/
def klayer {D O : ℕ} (x : Fin D → EReal) (bw : Fin D → Fin O → EReal) (sw : Fin 8 → Fin D → Fin O → EReal) (o : Fin O) : EReal :=
  (∑ c, gelu (x c) * bw c o) + ∑ g : Fin 8, ∑ c, kbasis (x c) g * sw g c o

/-- The mean of a row of 256. -/
def mean (h : Fin 256 → EReal) : EReal := Ideal.div (∑ o, h o) (Ideal.ofBits .f32 0x43800000#32)

/-- A row of 256 normalized, scaled and shifted. -/
def norm (h g b : Fin 256 → EReal) (o : Fin 256) : EReal :=
  (h o - mean h) * Ideal.rsqrt (mean (fun o' => (h o' - mean h) * (h o' - mean h)) + Ideal.ofBits .f32 0x3727C5AC#32) * g o + b o

end Cert.Kan

end
-- ==== Proof.Spline.lean ====
/-
  The two forms of the cubic B-spline basis agree: the Cox–de Boor value is the kernel's times one sixth, at every extended real.
-/
module

public import proofs.«01_k».proof.Proof.Spec
public import Mathlib.Tactic.FieldSimp
public import Mathlib.Tactic.Linarith

@[expose] public section

noncomputable section

namespace Cert.Kan

open Idealize.ShloMosaic

/-- Knot `j` as a real number. -/
theorem knot_eq (j : ℕ) : knot j = ((j * (2 / 5) - 11 / 5 : ℝ) : EReal) := by
  unfold knot
  rw [Ideal.div_coe (by norm_num : (5 : ℝ) ≠ 0)]
  norm_cast
  push_cast
  ring_nf

/-- The difference of two knots `k` apart. -/
theorem knot_sub (i k : ℕ) : knot (i + k) - knot i = ((k * (2 / 5) : ℝ) : EReal) := by
  rw [knot_eq, knot_eq, ← EReal.coe_sub]
  congr 1
  push_cast
  ring

/-- The reference's step over real values: the kernel's step divided by the degree. -/
theorem rstep_coe (k : ℕ) (hk : 0 < k) (x : ℝ) (b : ℕ → ℝ) (i : ℕ) :
    rstep k (x : EReal) (fun j => (b j : EReal)) i
      = (((((x + 11 / 5) * (5 / 2) - i) * b i - ((x + 11 / 5) * (5 / 2) - (i + k + 1 : ℕ)) * b (i + 1)) / k : ℝ) : EReal) := by
  have hk' : (k : ℝ) ≠ 0 := by exact_mod_cast hk.ne'
  have h5 : (k * (2 / 5) : ℝ) ≠ 0 := by positivity
  unfold rstep
  rw [knot_sub, show i + k + 1 = (i + 1) + k by omega, knot_sub, Ideal.div_coe h5, Ideal.div_coe h5, knot_eq, knot_eq]
  simp only [← EReal.coe_sub, ← EReal.coe_mul, ← EReal.coe_add]
  congr 1
  push_cast
  field_simp
  ring

/-- The kernel's step over real values. -/
theorem step_coe (k : ℕ) (y : ℝ) (b : ℕ → ℝ) (i : ℕ) :
    step k (dist (y : EReal)) (fun j => (b j : EReal)) i = (((y - i) * b i - (y - (i + k + 1 : ℕ)) * b (i + 1) : ℝ) : EReal) := by
  unfold step dist
  norm_cast

/-- The coordinate of a real point. -/
theorem coord_coe (x : ℝ) : coord (x : EReal) = (((x + 11 / 5) * (5 / 2) : ℝ) : EReal) := by
  unfold coord
  rw [← EReal.coe_sub, ← EReal.coe_mul]
  congr 1
  ring

/-- The hat of a real coordinate. -/
theorem tent_coe (y : ℝ) (i : ℕ) : tent (dist (y : EReal)) i = ((max (min (y - i) (0 - (y - (i + 2 : ℕ)))) 0 : ℝ) : EReal) := by
  unfold tent dist
  rw [← EReal.coe_zero, ← EReal.coe_sub, ← EReal.coe_sub, ← EReal.coe_sub, EReal.coe_strictMono.monotone.map_max,
    EReal.coe_strictMono.monotone.map_min]

/-- The indicator of a real point, by its coordinate. -/
theorem ind_coe (x : ℝ) (i : ℕ) :
    ind (x : EReal) i
      = (((if (i : ℝ) ≤ (x + 11 / 5) * (5 / 2) ∧ (x + 11 / 5) * (5 / 2) < i + 1 then 1 else 0 : ℝ)) : EReal) := by
  unfold ind
  have h : (((i : ℝ) * (2 / 5) - 11 / 5 ≤ x ∧ x < ((i + 1 : ℕ) : ℝ) * (2 / 5) - 11 / 5)
      ↔ ((i : ℝ) ≤ (x + 11 / 5) * (5 / 2) ∧ (x + 11 / 5) * (5 / 2) < i + 1)) := by
    push_cast
    constructor <;> rintro ⟨h1, h2⟩ <;> constructor <;> linarith
  simp only [knot_eq, EReal.coe_le_coe_iff, EReal.coe_lt_coe_iff, h]
  split <;> simp

/-- At a real point the spline of degree one is the hat. -/
theorem rstep_ind_coe (x : ℝ) (i : ℕ) : rstep 1 (x : EReal) (ind x) i = tent (dist (coord x)) i := by
  rw [show ind (x : EReal) = fun j => ((_ : ℝ) : EReal) from funext (ind_coe x), rstep_coe 1 Nat.one_pos, coord_coe, tent_coe]
  congr 1
  generalize (x + 11 / 5) * (5 / 2) = y
  push_cast
  rcases lt_or_ge y i with h0 | h0
  · rw [if_neg (by intro h; linarith [h.1]), if_neg (by intro h; linarith [h.1]), max_eq_right (min_le_of_left_le (by linarith))]
    simp
  rcases lt_or_ge y (i + 1) with h1 | h1
  · rw [if_pos ⟨h0, h1⟩, if_neg (by intro h; linarith [h.1]), min_eq_left (by linarith), max_eq_left (by linarith)]
    ring
  rcases lt_or_ge y (i + 1 + 1) with h2 | h2
  · rw [if_neg (by intro h; linarith [h.2]), if_pos ⟨h1, h2⟩, min_eq_right (by linarith), max_eq_left (by linarith)]
    ring
  · rw [if_neg (by intro h; linarith [h.2]), if_neg (by intro h; linarith [h.2]), max_eq_right (min_le_of_right_le (by linarith))]
    simp

/-- A step of either recursion over values that are all zero is zero. -/
theorem step_zero (k : ℕ) (d : ℕ → EReal) : step k d (fun _ => 0) = fun _ => 0 := by
  funext i; simp [step]
/-- A step of the recursion from splines that are all zero is zero. -/
theorem rstep_zero (k : ℕ) (x : EReal) : rstep k x (fun _ => 0) = fun _ => 0 := by
  funext i; simp [rstep]

/-- At an infinity no basis function of the kernel's is other than zero … -/
theorem kbasis_zero (x : EReal) (h : tent (dist (coord x)) = fun _ => 0) (i : ℕ) : kbasis x i = 0 := by
  unfold kbasis cubic; rw [h, step_zero, step_zero]
/-- … and neither is one of the reference's. -/
theorem rbasis_zero (x : EReal) (h : ind x = fun _ => 0) (i : ℕ) : rbasis x i = 0 := by
  unfold rbasis; rw [h, rstep_zero, rstep_zero, rstep_zero]

/-- **The two bases**: the Cox–de Boor value is the kernel's times one sixth, at every extended real. -/
theorem rbasis_eq (x : EReal) (i : ℕ) : rbasis x i = kbasis x i * Ideal.div ((1 : ℝ) : EReal) ((6 : ℝ) : EReal) := by
  rw [Ideal.div_coe (by norm_num : (6 : ℝ) ≠ 0)]
  induction x using EReal.rec with
  | bot =>
    rw [kbasis_zero, rbasis_zero, zero_mul]
    · funext j
      rw [ind, if_neg (by rintro ⟨h, -⟩; rw [knot_eq, le_bot_iff] at h; exact EReal.coe_ne_bot _ h)]
    · funext j
      have hc : coord ⊥ = ⊥ := by
        unfold coord; rw [EReal.bot_sub, EReal.bot_mul_coe_of_pos (by norm_num)]
      simp [tent, dist, hc]
  | top =>
    rw [kbasis_zero, rbasis_zero, zero_mul]
    · funext j
      rw [ind, if_neg (by rintro ⟨-, h⟩; exact not_top_lt h)]
    · funext j
      have hc : coord ⊤ = ⊤ := by
        unfold coord; rw [EReal.top_sub_coe, EReal.top_mul_coe_of_pos (by norm_num)]
      have hd (n : ℕ) : dist ⊤ n = ⊤ := EReal.top_sub_coe _
      simp [tent, hc, hd]
  | coe x =>
    unfold rbasis kbasis cubic
    rw [show rstep 1 (x : EReal) (ind x) = tent (dist (coord x)) from funext (rstep_ind_coe x), coord_coe,
      show tent (dist (((x + 11 / 5) * (5 / 2) : ℝ) : EReal)) = fun j => ((_ : ℝ) : EReal) from funext (tent_coe _)]
    rw [show rstep 2 (x : EReal) _ = fun j => ((_ : ℝ) : EReal) from funext (rstep_coe 2 (by norm_num) x _),
      rstep_coe 3 (by norm_num),
      show step 2 (dist (((x + 11 / 5) * (5 / 2) : ℝ) : EReal)) _ = fun j => ((_ : ℝ) : EReal) from funext (step_coe 2 _ _), step_coe]
    rw [← EReal.coe_mul, ← EReal.coe_mul]
    congr 1
    push_cast
    ring

end Cert.Kan

end
-- ==== Proof.Cat.lean ====
/-
  A product whose left operand is eight equal pieces side by side: the sum over the pieces and the columns of one piece.
-/
module

public import Idealize.ShloMosaic.Lib.MatmulPlain
public import Idealize.ShloMosaic.Lib.Pipeline.Value

@[expose] public section

noncomputable section

namespace Cert.Kan

open Idealize.ShloMosaic Idealize.ShloMosaic.ValueIdx
open scoped BigOperators

/-- Column `c` of piece `g` among all the columns. -/
def col {D N : ℕ} (hN : 8 * D = N) (g : Fin 8) (c : Fin D) : Fin N :=
  ⟨g.val * D + c.val, by
    have := g.isLt; have := c.isLt
    calc g.val * D + c.val < g.val * D + D := by omega
      _ = (g.val + 1) * D := by ring
      _ ≤ 8 * D := Nat.mul_le_mul_right _ (by omega)
      _ = N := hN⟩

/-- A sum over all the columns is the sum over the pieces and the columns of a piece. -/
theorem sum_col {D N : ℕ} (hN : 8 * D = N) (f : Fin N → EReal) : ∑ k, f k = ∑ g : Fin 8, ∑ c : Fin D, f (col hN g c) := by
  subst hN
  rw [← Equiv.sum_comp finProdFinEquiv f, Fintype.sum_prod_type]
  refine Finset.sum_congr rfl fun g _ => Finset.sum_congr rfl fun c _ => congrArg f (Fin.ext ?_)
  show c.val + D * g.val = g.val * D + c.val
  ring

/-- Eight pieces of one width side by side, read in column `c` of piece `g`. -/
theorem cat_apply {R D N : ℕ} (hN : 8 * D = N) (hD : 0 < D) (f : Fin 8 → (⟨2, ![R, D]⟩ : Shape).Idx → EReal)
    (h : Shape.Concatenates ((List.ofFn fun n : Fin 8 =>
      (⟨⟨2, ![R, D]⟩, f n⟩ : (s : Shape) × (s.Idx → EReal))).map (·.1)) ⟨2, ![R, N]⟩ 1) (r : Fin R) (g : Fin 8) (c : Fin D) :
    concatenate ⟨2, ![R, N]⟩ 1 (List.ofFn fun n : Fin 8 => (⟨⟨2, ![R, D]⟩, f n⟩ : (s : Shape) × (s.Idx → EReal))) h (ix2 r (col hN g c))
      = f g (ix2 r c) := by
  refine concatenate_ofFn_apply (t := ⟨2, ![R, N]⟩) (s₁ := ⟨2, ![R, D]⟩) 1 f h rfl D rfl _ g ?_ (ix2 r c) ?_ ?_
  · show (g.val * D + c.val) / D = g.val
    rw [Nat.mul_comm, Nat.mul_add_div hD, Nat.div_eq_of_lt c.isLt, Nat.add_zero]
  · show c.val = (g.val * D + c.val) % D
    rw [Nat.mul_comm, Nat.mul_add_mod, Nat.mod_eq_of_lt c.isLt]
  · intro b hb
    match b with
    | ⟨0, _⟩ => rfl
    | ⟨1, _⟩ => exact absurd rfl hb

/-- **The product of eight pieces side by side with a matrix**, read at (r, o), each piece's values given. -/
theorem matmul_cat_apply {R D N O : ℕ} {φ₁ φ₂ : FTy} (hN : 8 * D = N) (hD : 0 < D) (f : Fin 8 → (⟨2, ![R, D]⟩ : Shape).Idx → EReal)
    (h : Shape.Concatenates ((List.ofFn fun n : Fin 8 =>
      (⟨⟨2, ![R, D]⟩, f n⟩ : (s : Shape) × (s.Idx → EReal))).map (·.1)) ⟨2, ![R, N]⟩ 1)
    (rhs : FVec Ideal ⟨2, ![N, O]⟩ φ₂) (r : Fin R) (o : Fin O) (P : Fin 8 → Fin D → EReal) (hP : ∀ g c, f g (ix2 r c) = P g c) :
    FloatOps.matmul (F := Ideal) (φ₁ := φ₁) (DotDims.plain R N O) none
        (concatenate ⟨2, ![R, N]⟩ 1 (List.ofFn fun n : Fin 8 => (⟨⟨2, ![R, D]⟩, f n⟩ : (s : Shape) × (s.Idx → EReal))) h) rhs
        (constant ⟨2, ![R, O]⟩ .f32 0x00000000#32) (ix2 r o)
      = ∑ g : Fin 8, ∑ c : Fin D, P g c * rhs (ix2 (col hN g c) o) := by
  rw [Ideal.matmul_plain_apply, sum_col hN]
  show Ideal.ofBits .f32 0x00000000#32 + _ = _
  rw [Ideal.ofBits_zero_f32, zero_add]
  refine Finset.sum_congr rfl fun g _ => Finset.sum_congr rfl fun c _ => ?_
  rw [cat_apply hN hD f h, hP]

/-- A plain product into the zero accumulator, read at (r, o), the left operand's row given. -/
theorem matmul_row_apply {R K O : ℕ} {φ₁ φ₂ : FTy} (lhs : FVec Ideal ⟨2, ![R, K]⟩ φ₁) (rhs : FVec Ideal ⟨2, ![K, O]⟩ φ₂) (r : Fin R)
    (o : Fin O) (P : Fin K → EReal) (hP : ∀ c, lhs (ix2 r c) = P c) :
    FloatOps.matmul (DotDims.plain R K O) none lhs rhs (constant ⟨2, ![R, O]⟩ .f32 0x00000000#32) (ix2 r o)
      = ∑ c : Fin K, P c * rhs (ix2 c o) := by
  rw [Ideal.matmul_plain_apply]
  show Ideal.ofBits .f32 0x00000000#32 + _ = _
  rw [Ideal.ofBits_zero_f32, zero_add]
  exact Finset.sum_congr rfl fun c _ => by rw [hP]

end Cert.Kan

end
-- ==== Proof.Block.lean ====
/-
  What the kernel's body leaves in its output block: row by row, two layers and the normalization.
-/
module

public import proofs.«01_k».proof.Proof.Gen.KernelIdeal.Frame
public import proofs.«01_k».proof.Proof.Consts
public import proofs.«01_k».proof.Proof.Spline
public import proofs.«01_k».proof.Proof.Cat
public import Idealize.ShloMosaic.Lib.ValueIdx
public import Idealize.ShloMosaic.Lib.Pointwise

@[expose] public section

noncomputable section

namespace Cert.Kan

open Idealize.ShloMosaic hiding ix2
open Idealize.ShloMosaic.ValueIdx Cert.KernelIdeal Cert.KernelIdeal.Gen
open scoped BigOperators

/-- A basis value needs the distances from twelve knots and ten hats only. -/
theorem cubic_congr (D T d : ℕ → EReal) (hD : ∀ j < 12, D j = d j) (hT : ∀ j < 10, T j = tent d j) (n : ℕ) (hn : n < 8) :
    step 3 D (step 2 D T) n = cubic d n := by
  show D n * (D n * T n - D (n + 3) * T (n + 1)) - D (n + 4) * (D (n + 1) * T (n + 1) - D (n + 4) * T (n + 2))
    = d n * (d n * tent d n - d (n + 3) * tent d (n + 1)) - d (n + 4) * (d (n + 1) * tent d (n + 1) - d (n + 4) * tent d (n + 2))
  rw [hD n (by omega), hD (n + 3) (by omega), hD (n + 4) (by omega), hD (n + 1) (by omega), hT n (by omega), hT (n + 1) (by omega),
    hT (n + 2) (by omega)]

/-- The hat from its two distances. -/
theorem tent_of (d : ℕ → EReal) (j : ℕ) (a b z : EReal) (ha : a = d j) (hb : b = d (j + 2)) (hz : z = 0) :
    max (min a (z - b)) z = tent d j := by
  rw [ha, hb, hz]
  rfl

/-- Both offsets of a whole block are zero. -/
theorem off0 : (![0, 0] : Fin 2 → ℕ) = fun _ => 0 := funext fun a => by fin_cases a <;> rfl

/-! ## The first layer -/

/-- The coordinates of a block. -/
theorem coord1 (x : Vec Ideal S512x256 .f32) (i : S512x256.Idx) : k0_pay3 (F := Ideal) x i = coord (x i) :=
  congrArg₂ (· * ·) (congrArg (x i - ·) named_knot0) ofBits_five_halves

/-- The distances from the twelve knots, in the kernel's names. -/
def dists1 (x : Vec Ideal S512x256 .f32) : ℕ → FVec Ideal S512x256 .f32
  | 0 => k0_pay4 x
  | 1 => k0_pay5 x
  | 2 => k0_pay6 x
  | 3 => k0_pay7 x
  | 4 => k0_pay8 x
  | 5 => k0_pay9 x
  | 6 => k0_pay10 x
  | 7 => k0_pay11 x
  | 8 => k0_pay12 x
  | 9 => k0_pay13 (k0_pay3 x)
  | 10 => k0_pay14 (k0_pay3 x)
  | _ => k0_pay15 (k0_pay3 x)

/-- Each is the distance of the point's coordinate from its knot. -/
theorem dists1_apply (x : Vec Ideal S512x256 .f32) (i : S512x256.Idx) (j : ℕ) (hj : j < 12) :
    dists1 x j i = dist (coord (x i)) j := by
  have h (n : Fin 12) : k0_pay3 (F := Ideal) x i - Ideal.ofBits .f32 (word n) = dist (coord (x i)) n :=
    congrArg₂ (· - ·) (coord1 x i) (ofBits_word n)
  interval_cases j
  exacts [h 0, h 1, h 2, h 3, h 4, h 5, h 6, h 7, h 8, h 9, h 10, h 11]

/-- The ten hats, in the kernel's names. -/
def tents1 (x : Vec Ideal S512x256 .f32) : ℕ → FVec Ideal S512x256 .f32
  | 0 => k0_pay17 (k0_pay4 x) (k0_pay6 x)
  | 1 => k0_pay18 (k0_pay5 x) (k0_pay7 x)
  | 2 => k0_pay19 (k0_pay6 x) (k0_pay8 x)
  | 3 => k0_pay20 (k0_pay7 x) (k0_pay9 x)
  | 4 => k0_pay21 (k0_pay8 x) (k0_pay10 x)
  | 5 => k0_pay22 (k0_pay9 x) (k0_pay11 x)
  | 6 => k0_pay23 (k0_pay10 x) (k0_pay12 x)
  | 7 => k0_pay24 (k0_pay3 x) (k0_pay11 x)
  | 8 => k0_pay25 (k0_pay3 x) (k0_pay12 x)
  | _ => maximumf (k0_pay26 (k0_pay3 x)) (k0_pay16 (F := Ideal))

/-- Each is the hat over its three knots. -/
theorem tents1_apply (x : Vec Ideal S512x256 .f32) (i : S512x256.Idx) (j : ℕ) (hj : j < 10) :
    tents1 x j i = tent (dist (coord (x i))) j := by
  have h := tent_of (dist (coord (x i))) j _ _ _ (dists1_apply x i j (by omega)) (dists1_apply x i (j + 2) (by omega))
    Ideal.ofBits_zero_f32
  interval_cases j <;> exact h

/-- The first layer's base product. -/
theorem base1 (x : Vec Ideal S512x256 .f32) (w : Vec Ideal S256x512 .bf16) (r : Fin 512) (o : Fin 512) :
    k0_pay2 (F := Ideal) x w (ix2 r o) = ∑ c : Fin 256, gelu (x (ix2 r c)) * w (ix2 c o) := by
  unfold k0_pay2
  rw [shapeCast_self]
  refine matmul_row_apply (R := 512) (K := 256) (O := 512) _ w r o _ fun c => ?_
  show x (ix2 r c) * (_ * (_ + Ideal.tanh (_ * (x (ix2 r c) + _ * (x (ix2 r c) * (x (ix2 r c) * x (ix2 r c))))))) = _
  rw [mul_comm (x (ix2 r c)) (x (ix2 r c) * x (ix2 r c))]
  rfl

/-- **The first layer of a block.** -/
theorem layer1_apply (x0 : Vec Ideal S512x256 .f32) (x1 : Vec Ideal S256x512 .bf16) (x2 : Vec Ideal S2048x512 .bf16)
    (x3 : Vec Ideal S512x256 .bf16) (x4 : Vec Ideal S4096x256 .bf16) (x5 x6 : Vec Ideal S1x256 .f32) (r : Fin 512) (o : Fin 512) :
    k0_pay66 (F := Ideal) x0 x1 x2 x3 x4 x5 x6 (ix2 r o)
      = klayer (fun c : Fin 256 => x0 (ix2 r c)) (fun c o => x1 (ix2 c o))
          (fun g c o => x2 (ix2 (col (N := 2048) rfl g c) o)) o := by
  unfold k0_pay66 k0_pay65 k0_pay64 k0_pay63 k0_pay62 k0_pay61 k0_pay60 k0_pay59 k0_pay58 k0_pay57 k0_pay56
  have l0 : View.ld x0 r0_0 = x0 := View.ld_unit_zero off0 _ x0
  have l1 : View.ld x1 r0_1 = x1 := View.ld_unit_zero off0 _ x1
  have l2 : View.ld x2 r0_2 = x2 := View.ld_unit_zero off0 _ x2
  rw [l0, l1, l2]
  unfold k0_pay27
  rw [shapeCast_self]
  refine congrArg₂ (· + ·) (base1 x0 x1 r o) ?_
  refine matmul_cat_apply (R := 512) (D := 256) (N := 2048) (O := 512) rfl (by decide) ![_, _, _, _, _, _, _, _] _ x2 r o _ fun g c => ?_
  have h := cubic_congr (fun j => dists1 x0 j (ix2 r c)) (fun j => tents1 x0 j (ix2 r c)) (dist (coord (x0 (ix2 r c))))
    (fun j hj => dists1_apply x0 _ j hj) (fun j hj => tents1_apply x0 _ j hj) g g.isLt
  refine Eq.trans ?_ h
  fin_cases g <;> rfl

/-! ## The second layer -/

/-- The coordinates of a block of the hidden row. -/
theorem coord2 (x : FVec Ideal S512x512 .f32) (i : S512x512.Idx) : k0_pay29 (F := Ideal) x i = coord (x i) :=
  congrArg₂ (· * ·) (congrArg (x i - ·) named_knot0) ofBits_five_halves

/-- The distance from a knot, less one, is the distance from the next knot. -/
theorem dist_succ (y : EReal) (j : ℕ) : dist y j - ((1 : ℝ) : EReal) = dist y (j + 1) := by
  show y - ((j : ℝ) : EReal) - ((1 : ℝ) : EReal) = y - (((j + 1 : ℕ) : ℝ) : EReal)
  induction y with
  | bot => rfl
  | top => rw [EReal.top_sub_coe, EReal.top_sub_coe, EReal.top_sub_coe]
  | coe y =>
    rw [← EReal.coe_sub, ← EReal.coe_sub, ← EReal.coe_sub]
    congr 1
    push_cast
    ring

/-- The distances from the twelve knots, in the kernel's names: every odd one is its predecessor less one. -/
def dists2 (x : FVec Ideal S512x512 .f32) : ℕ → FVec Ideal S512x512 .bf16
  | 0 => k0_pay30 x
  | 1 => k0_pay31 x
  | 2 => k0_pay32 x
  | 3 => k0_pay33 x
  | 4 => k0_pay34 x
  | 5 => k0_pay35 x
  | 6 => k0_pay36 x
  | 7 => k0_pay37 x
  | 8 => k0_pay39 (k0_pay38 x)
  | 9 => k0_pay40 (k0_pay38 x)
  | 10 => k0_pay41 (k0_pay29 x)
  | _ => k0_pay42 (k0_pay29 x)

/-- Each is the distance of the point's coordinate from its knot. -/
theorem dists2_apply (x : FVec Ideal S512x512 .f32) (i : S512x512.Idx) (j : ℕ) (hj : j < 12) :
    dists2 x j i = dist (coord (x i)) j := by
  have h (n : Fin 12) : k0_pay29 (F := Ideal) x i - Ideal.ofBits .f32 (word n) = dist (coord (x i)) n :=
    congrArg₂ (· - ·) (coord2 x i) (ofBits_word n)
  have h' (n : Fin 12) : k0_pay29 (F := Ideal) x i - Ideal.ofBits .f32 (word n) - Ideal.ofBits .bf16 0x3F80#16
      = dist (coord (x i)) (n + 1) := (congrArg₂ (· - ·) (h n) ofBits_one_bf16).trans (dist_succ _ _)
  interval_cases j
  exacts [h 0, h' 0, h 2, h' 2, h 4, h' 4, h 6, h' 6, h 8, h' 8, h 10, h' 10]

/-- The ten hats, in the kernel's names. -/
def tents2 (x : FVec Ideal S512x512 .f32) : ℕ → FVec Ideal S512x512 .bf16
  | 0 => k0_pay45 (k0_pay30 x) (k0_pay32 x)
  | 1 => k0_pay46 (k0_pay31 x) (k0_pay33 x)
  | 2 => k0_pay47 (k0_pay32 x) (k0_pay34 x)
  | 3 => k0_pay48 (k0_pay33 x) (k0_pay35 x)
  | 4 => k0_pay49 (k0_pay34 x) (k0_pay36 x)
  | 5 => k0_pay50 (k0_pay35 x) (k0_pay37 x)
  | 6 => k0_pay51 (k0_pay36 x) (k0_pay38 x)
  | 7 => k0_pay52 (k0_pay37 x) (k0_pay38 x)
  | 8 => maximumf (k0_pay53 (k0_pay29 x) (k0_pay38 x)) (k0_pay44 (F := Ideal))
  | _ => maximumf (minimumf (k0_pay40 (k0_pay38 x)) (k0_pay43 (k0_pay29 x))) (k0_pay44 (F := Ideal))

/-- Each is the hat over its three knots. -/
theorem tents2_apply (x : FVec Ideal S512x512 .f32) (i : S512x512.Idx) (j : ℕ) (hj : j < 10) :
    tents2 x j i = tent (dist (coord (x i))) j := by
  have h := tent_of (dist (coord (x i))) j _ _ _ (dists2_apply x i j (by omega)) (dists2_apply x i (j + 2) (by omega))
    ofBits_zero_bf16
  interval_cases j <;> exact h

/-- The second layer's base product. -/
theorem base2 (x : FVec Ideal S512x512 .f32) (w : Vec Ideal S512x256 .bf16) (r : Fin 512) (o : Fin 256) :
    k0_pay28 (F := Ideal) x w (ix2 r o) = ∑ c : Fin 512, gelu (x (ix2 r c)) * w (ix2 c o) := by
  unfold k0_pay28
  rw [shapeCast_self]
  refine matmul_row_apply (R := 512) (K := 512) (O := 256) _ w r o _ fun c => ?_
  show x (ix2 r c) * (_ * (_ + Ideal.tanh (_ * (x (ix2 r c) + _ * (x (ix2 r c) * (x (ix2 r c) * x (ix2 r c))))))) = _
  rw [mul_comm (x (ix2 r c)) (x (ix2 r c) * x (ix2 r c))]
  rfl

/-- The second layer's basis values side by side, in the kernel's names. -/
def basis2 (x : FVec Ideal S512x512 .f32) : FVec Ideal S512x4096 .bf16 :=
  k0_pay54 (dists2 x 0) (dists2 x 1) (dists2 x 2) (dists2 x 3) (dists2 x 4) (dists2 x 5) (dists2 x 6) (dists2 x 7) (dists2 x 8)
    (dists2 x 9) (dists2 x 10) (dists2 x 11) (k0_pay43 (k0_pay29 x)) k0_pay44 (tents2 x 0) (tents2 x 1) (tents2 x 2) (tents2 x 3)
    (tents2 x 4) (tents2 x 5) (tents2 x 6) (tents2 x 7) (k0_pay53 (k0_pay29 x) (k0_pay38 x))

/-- **The second layer of a block.** -/
theorem layer2_apply (x : FVec Ideal S512x512 .f32) (bw : Vec Ideal S512x256 .bf16) (sw : FVec Ideal S4096x256 .bf16) (r : Fin 512)
    (o : Fin 256) :
    addf (k0_pay28 (F := Ideal) x bw)
        (matmul dot_S512x4096_S4096x256_S512x256_1_0_0_1_n_n none (basis2 x) sw (constant S512x256 .f32 0x00000000#32)) (ix2 r o)
      = klayer (fun c : Fin 512 => x (ix2 r c)) (fun c o => bw (ix2 c o))
          (fun g c o => sw (ix2 (col (N := 4096) rfl g c) o)) o := by
  unfold basis2 k0_pay54
  refine congrArg₂ (· + ·) (base2 x bw r o) ?_
  refine matmul_cat_apply (R := 512) (D := 512) (N := 4096) (O := 256) rfl (by decide) ![_, _, _, _, _, _, _, _] _ sw r o _ fun g c => ?_
  have h := cubic_congr (fun j => dists2 x j (ix2 r c)) (fun j => tents2 x j (ix2 r c)) (dist (coord (x (ix2 r c))))
    (fun j hj => dists2_apply x _ j hj) (fun j hj => tents2_apply x _ j hj) g g.isLt
  refine Eq.trans ?_ h
  fin_cases g <;> rfl

/-! ## The normalization -/

/-- **The normalized row of a block.** -/
theorem norm_apply (v157 : FVec Ideal S512x256 .f32) (v284 : FVec Ideal S512x4096 .bf16) (v286 : FVec Ideal S4096x256 .bf16)
    (z : FVec Ideal S512x256 .f32) (g b : Vec Ideal S1x256 .f32) (r : Fin 512) (o : Fin 256) :
    k0_pay1 (F := Ideal) v157 v284 v286 z g b (ix2 r o)
      = norm (fun o => addf v157 (matmul dot_S512x4096_S4096x256_S512x256_1_0_0_1_n_n none v284 v286 z) (ix2 r o))
          (fun o => g (ix2 0 o)) (fun o => b (ix2 0 o)) o := by
  unfold k0_pay1
  generalize addf v157 (matmul dot_S512x4096_S4096x256_S512x256_1_0_0_1_n_n none v284 v286 z) = h
  pointwise
  rfl

/-- **One block of the output**: each row through the two layers and the normalization. -/
theorem block_apply (x0 : Vec Ideal S512x256 .f32) (x1 : Vec Ideal S256x512 .bf16) (x2 : Vec Ideal S2048x512 .bf16)
    (x3 : Vec Ideal S512x256 .bf16) (x4 : Vec Ideal S4096x256 .bf16) (x5 x6 : Vec Ideal S1x256 .f32) (r : Fin 512) (o : Fin 256) :
    out0_7 (F := Ideal) x0 x1 x2 x3 x4 x5 x6 (ix2 r o)
      = norm (klayer (klayer (fun c : Fin 256 => x0 (ix2 r c)) (fun c o => x1 (ix2 c o))
            (fun g c (o : Fin 512) => x2 (ix2 (col (N := 2048) rfl g c) o)))
          (fun c o => x3 (ix2 c o)) (fun g c (o : Fin 256) => x4 (ix2 (col (N := 4096) rfl g c) o)))
          (fun o => x5 (ix2 0 o)) (fun o => x6 (ix2 0 o)) o := by
  unfold out0_7 k0_pay76 k0_pay75 k0_pay74 k0_pay73 k0_pay72 k0_pay71 k0_pay70 k0_pay69 k0_pay68 k0_pay67
  have l3 : View.ld x3 r0_0 = x3 := View.ld_unit_zero off0 _ x3
  have l4 : View.ld x4 r0_3 = x4 := View.ld_unit_zero off0 _ x4
  have l5 : View.ld x5 r0_4 = x5 := View.ld_unit_zero off0 _ x5
  have l6 : View.ld x6 r0_4 = x6 := View.ld_unit_zero off0 _ x6
  rw [l3, l4, l5, l6]
  refine (congrFun (View.canon_unit_zero off0 _ _) (ix2 r o)).trans ?_
  refine (norm_apply _ _ _ _ x5 x6 r o).trans ?_
  have hc : k0_pay55 (F := Ideal) x4 = x4 := shapeCast_self _ _
  rw [hc]
  have h := fun o => layer2_apply (k0_pay66 (F := Ideal) x0 x1 x2 x3 x4 x5 x6) x3 x4 r o
  refine congrArg (fun f => norm f (fun o => x5 (ix2 0 o)) (fun o => x6 (ix2 0 o)) o) (funext fun o => (h o).trans ?_)
  refine congrArg (fun f => klayer f (fun c o => x3 (ix2 c o)) (fun g c (o : Fin 256) => x4 (ix2 (col (N := 4096) rfl g c) o)) o)
    (funext fun c => layer1_apply x0 x1 x2 x3 x4 x5 x6 r c)

end Cert.Kan

end
-- ==== Proof.KernelValue.lean ====
/-
  The kernel's result array after the run, read at an index.
-/
module

public import proofs.«01_k».proof.Proof.Gen.KernelIdeal.Value
public import proofs.«01_k».proof.Proof.Block
public import Idealize.ShloMosaic.Lib.Pipeline.ValueKit

@[expose] public section

set_option maxRecDepth 16384

noncomputable section

namespace Cert.Kan

open Idealize.ShloMosaic hiding ix1 ix2 ix3
open Idealize.ShloMosaic.TcCoe Idealize.ShloMosaic.ValueIdx Cert.KernelIdeal Cert.KernelIdeal.Gen
open scoped BigOperators

/-! ## A layer over weights laid out for the kernel -/

/-- **The kernel's layer is the reference's layer**, the factor 1/6 of the basis put into the scale of the weights. -/
theorem klayer_eq_layer {D O : ℕ} (x : Fin D → EReal) (bw : Fin O → Fin D → EReal) (w : Fin O → Fin D → Fin 8 → EReal)
    (s : Fin O → Fin D → EReal) :
    klayer x (fun c o => bw o c) (fun g c o => w o c g * (s o c * Ideal.div ((1 : ℝ) : EReal) ((6 : ℝ) : EReal))) = layer x bw w s := by
  funext o
  refine congrArg₂ (· + ·) rfl (Finset.sum_congr rfl fun g _ => Finset.sum_congr rfl fun c _ => ?_)
  rw [rbasis_eq]
  show kbasis (x c) g * (w o c g * (s o c * _)) = _
  rw [← mul_assoc (w o c g), mul_comm (w o c g * s o c), ← mul_assoc]

/-- Equal operands give equal layers. -/
theorem klayer_congr {D O : ℕ} {x x' : Fin D → EReal} {bw bw' : Fin D → Fin O → EReal} {sw sw' : Fin 8 → Fin D → Fin O → EReal}
    (hx : ∀ c, x c = x' c) (hb : ∀ c o, bw c o = bw' c o) (hs : ∀ g c o, sw g c o = sw' g c o) (o : Fin O) :
    klayer x bw sw o = klayer x' bw' sw' o := by
  obtain rfl : x = x' := funext hx
  obtain rfl : bw = bw' := funext₂ hb
  obtain rfl : sw = sw' := funext₃ hs
  rfl

/-- Equal operands give equal normalized rows. -/
theorem norm_congr {h h' g g' b b' : Fin 256 → EReal} (hh : ∀ o, h o = h' o) (hg : ∀ o, g o = g' o) (hb : ∀ o, b o = b' o)
    (o : Fin 256) : norm h g b o = norm h' g' b' o := by
  obtain rfl : h = h' := funext hh
  obtain rfl : g = g' := funext hg
  obtain rfl : b = b' := funext hb
  rfl

variable (m : (ℓ : Loc nD τ sig) → Buf (Elt Ideal) ℓ)

/-! ## The arguments, and what the launch finds in the arrays prepared from them -/

/-- Row `n` of the input. -/
def rowX (c : Dev nD) (n : Fin 65536) (k : Fin 256) : EReal := m ((c : Thread nD τ).loc main_arg0) (ix2 n k)
/-- The first layer's base weights. -/
def base0 (c : Dev nD) (o : Fin 512) (k : Fin 256) : EReal := m ((c : Thread nD τ).loc main_arg1) (ix2 o k)
/-- The first layer's spline weights. -/
def spl0 (c : Dev nD) (o : Fin 512) (k : Fin 256) (g : Fin 8) : EReal := m ((c : Thread nD τ).loc main_arg2) (ix3 o k g)
/-- The first layer's spline scales. -/
def scl0 (c : Dev nD) (o : Fin 512) (k : Fin 256) : EReal := m ((c : Thread nD τ).loc main_arg3) (ix2 o k)
/-- The second layer's base weights. -/
def basew1 (c : Dev nD) (o : Fin 256) (k : Fin 512) : EReal := m ((c : Thread nD τ).loc main_arg4) (ix2 o k)
/-- The second layer's spline weights. -/
def spl1 (c : Dev nD) (o : Fin 256) (k : Fin 512) (g : Fin 8) : EReal := m ((c : Thread nD τ).loc main_arg5) (ix3 o k g)
/-- The second layer's spline scales. -/
def scl1 (c : Dev nD) (o : Fin 256) (k : Fin 512) : EReal := m ((c : Thread nD τ).loc main_arg6) (ix2 o k)
/-- The gain of the normalization. -/
def gain (c : Dev nD) (o : Fin 256) : EReal := m ((c : Thread nD τ).loc main_arg7) (ix1 o)
/-- The shift of the normalization. -/
def shift (c : Dev nD) (o : Fin 256) : EReal := m ((c : Thread nD τ).loc main_arg8) (ix1 o)

/-- The launch finds the first layer's base weights transposed. -/
theorem entry_bw0 (c : Dev nD) (k : Fin 256) (o : Fin 512) : V m c main_v1 (ix2 k o) = base0 m c o k := by
  entry_read
  pointwise
  rfl

/-- The launch finds the second layer's base weights transposed. -/
theorem entry_bw1 (c : Dev nD) (k : Fin 512) (o : Fin 256) : V m c main_v3 (ix2 k o) = basew1 m c o k := by
  entry_read
  pointwise
  rfl

/-- The first layer's prepared spline weights, read at piece `g`, column `k`. -/
theorem prep0 (w : FVec Ideal S512x256x8 .f32) (s : FVec Ideal S512x256 .f32) (g : Fin 8) (k : Fin 256) (o : Fin 512) :
    truncf .bf16 (shapeCast S2048x512 (transpose S8x256x512 [2, 1, 0] (mulf w (broadcastInDim S512x256x8 ![0, 1, 2]
        bcast_S512x256x1_S512x256x8_0_1_2 (broadcastInDim S512x256x1 ![0, 1] bcast_S512x256_S512x256x1_0_1 (mulf s
        (broadcastInDim S512x256 ![] bcast_S_S512x256 (Host.divf (constant S_ .f32 0x3F800000#32) (constant S_ .f32 0x40C00000#32)))))))
        transposes_S512x256x8_S8x256x512_2_1_0) shapeCasts_S8x256x512_S2048x512) bitsLt_bf16_f32 (ix2 (col (N := 2048) rfl g k) o)
      = w (ix3 o k g) * (s (ix2 o k) * Ideal.div ((1 : ℝ) : EReal) ((6 : ℝ) : EReal)) := by
  rw [truncf_apply]
  refine (shapeCast_apply _ shapeCasts_S8x256x512_S2048x512 _ (ix3 g k o) ?_).trans ?_
  · rw [rowMajor_val3 _ (256 * 512) 512 rfl rfl, rowMajor_val2 _ 512 rfl]
    show g.val * (256 * 512) + k.val * 512 + o.val = (g.val * 256 + k.val) * 512 + o.val
    ring
  rw [← ofBits_one, ← ofBits_six]
  pointwise
  rfl

/-- The second layer's prepared spline weights, read at piece `g`, column `k`. -/
theorem prep1 (w : FVec Ideal S256x512x8 .f32) (s : FVec Ideal S256x512 .f32) (g : Fin 8) (k : Fin 512) (o : Fin 256) :
    truncf .bf16 (shapeCast S4096x256 (transpose S8x512x256 [2, 1, 0] (mulf w (broadcastInDim S256x512x8 ![0, 1, 2]
        bcast_S256x512x1_S256x512x8_0_1_2 (broadcastInDim S256x512x1 ![0, 1] bcast_S256x512_S256x512x1_0_1 (mulf s
        (broadcastInDim S256x512 ![] bcast_S_S256x512 (Host.divf (constant S_ .f32 0x3F800000#32) (constant S_ .f32 0x40C00000#32)))))))
        transposes_S256x512x8_S8x512x256_2_1_0) shapeCasts_S8x512x256_S4096x256) bitsLt_bf16_f32 (ix2 (col (N := 4096) rfl g k) o)
      = w (ix3 o k g) * (s (ix2 o k) * Ideal.div ((1 : ℝ) : EReal) ((6 : ℝ) : EReal)) := by
  rw [truncf_apply]
  refine (shapeCast_apply _ shapeCasts_S8x512x256_S4096x256 _ (ix3 g k o) ?_).trans ?_
  · rw [rowMajor_val3 _ (512 * 256) 256 rfl rfl, rowMajor_val2 _ 256 rfl]
    show g.val * (512 * 256) + k.val * 256 + o.val = (g.val * 512 + k.val) * 256 + o.val
    ring
  rw [← ofBits_one, ← ofBits_six]
  pointwise
  rfl

/-- The launch finds the first layer's spline weights, scaled and divided by six, the basis functions side by side. -/
theorem entry_sw0 (c : Dev nD) (g : Fin 8) (k : Fin 256) (o : Fin 512) :
    V m c main_v12 (ix2 (col (N := 2048) rfl g k) o)
      = spl0 m c o k g * (scl0 m c o k * Ideal.div ((1 : ℝ) : EReal) ((6 : ℝ) : EReal)) := by
  entry_read
  exact prep0 _ _ g k o

/-- The launch finds the second layer's spline weights, scaled and divided by six, the basis functions side by side. -/
theorem entry_sw1 (c : Dev nD) (g : Fin 8) (k : Fin 512) (o : Fin 256) :
    V m c main_v21 (ix2 (col (N := 4096) rfl g k) o)
      = spl1 m c o k g * (scl1 m c o k * Ideal.div ((1 : ℝ) : EReal) ((6 : ℝ) : EReal)) := by
  entry_read
  exact prep1 _ _ g k o

/-- The launch finds the gain as one row. -/
theorem entry_gain (c : Dev nD) (o : Fin 256) : V m c main_v22 (ix2 0 o) = gain m c o := by
  entry_read
  pointwise
  rfl

/-- The launch finds the shift as one row. -/
theorem entry_shift (c : Dev nD) (o : Fin 256) : V m c main_v23 (ix2 0 o) = shift m c o := by
  entry_read
  pointwise
  rfl

/-! ## The blocks of one grid point -/

/-- Point `t` reads and writes the `t`-th block of rows, and every prepared array whole. -/
theorem index0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0])

/-- Row `r` of block `t` among all rows. -/
def rowOf (t : Fin cfg0.N) (r : Fin 512) : Fin 65536 := ⟨t.val * 512 + r.val, by
  have ht : t.val < 128 := lt_of_lt_of_eq t.isLt N_0
  have := r.isLt
  omega⟩

/-- The input's block at grid point `t` is its rows `512 t` to `512 t + 511`. -/
theorem block0 (c : Dev nD) (t : Fin cfg0.N) (r : Fin 512) (k : Fin 256) : iblk m c 0 t (ix2 r k) = rowX m c (rowOf t r) k := by
  unfold rowX
  blk_ext [iblk, V_main_arg0, index0 t, rowOf]

/-- The first layer's base weights come whole to every grid point. -/
theorem block1 (c : Dev nD) (t : Fin cfg0.N) (i : S256x512.Idx) : iblk m c 1 t i = V m c main_v1 i := by
  blk_ext [iblk, index0 t]

/-- The first layer's spline weights come whole to every grid point. -/
theorem block2 (c : Dev nD) (t : Fin cfg0.N) (i : S2048x512.Idx) : iblk m c 2 t i = V m c main_v12 i := by
  blk_ext [iblk, index0 t]

/-- The second layer's base weights come whole to every grid point. -/
theorem block3 (c : Dev nD) (t : Fin cfg0.N) (i : S512x256.Idx) : iblk m c 3 t i = V m c main_v3 i := by
  blk_ext [iblk, index0 t]

/-- The second layer's spline weights come whole to every grid point. -/
theorem block4 (c : Dev nD) (t : Fin cfg0.N) (i : S4096x256.Idx) : iblk m c 4 t i = V m c main_v21 i := by
  blk_ext [iblk, index0 t]

/-- The gain comes whole to every grid point. -/
theorem block5 (c : Dev nD) (t : Fin cfg0.N) (i : S1x256.Idx) : iblk m c 5 t i = V m c main_v22 i := by
  blk_ext [iblk, index0 t]

/-- The shift comes whole to every grid point. -/
theorem block6 (c : Dev nD) (t : Fin cfg0.N) (i : S1x256.Idx) : iblk m c 6 t i = V m c main_v23 i := by
  blk_ext [iblk, index0 t]

/-- The result's block at grid point `t` is its rows `512 t` to `512 t + 511`. -/
theorem block7 (t : Fin cfg0.N) (r : Fin 512) (k : Fin 256) :
    ((cfg0.win 7).blk t).view.emb (ix2 r k) = ix2 (rowOf t r) k := by
  blk_ext [index0 t, rowOf]

/-! ## The result -/

/-- The result at row `n`, column `o`: two layers and the normalization. -/
def result (c : Dev nD) (n : Fin 65536) (o : Fin 256) : EReal :=
  norm (layer (layer (rowX m c n) (base0 m c) (spl0 m c) (scl0 m c)) (basew1 m c) (spl1 m c) (scl1 m c)) (gain m c) (shift m c) o

/-- The result array. -/
def resultArr (c : Dev nD) : Buf (Elt Ideal) ((c : Thread nD τ).loc main_v24) := fun i : S65536x256.Idx => result m c (i 0) (i 1)

/-- What point `t` leaves in its block. -/
theorem point (c : Dev nD) (t : Fin cfg0.N) (r : Fin 512) (o : Fin 256) :
    out0_7 (F := Ideal) (iblk m c 0 t) (iblk m c 1 t) (iblk m c 2 t) (iblk m c 3 t) (iblk m c 4 t) (iblk m c 5 t) (iblk m c 6 t) (ix2 r o)
      = result m c (rowOf t r) o := by
  refine (block_apply _ _ _ _ _ _ _ r o).trans ?_
  unfold result
  rw [← klayer_eq_layer, ← klayer_eq_layer]
  exact norm_congr
    (klayer_congr
      (klayer_congr (fun k => block0 m c t r k) (fun k o => (block1 m c t _).trans (entry_bw0 m c k o))
        fun g k o => (block2 m c t _).trans (entry_sw0 m c g k o))
      (fun k o => (block3 m c t _).trans (entry_bw1 m c k o)) fun g k o => (block4 m c t _).trans (entry_sw1 m c g k o))
    (fun o => (block5 m c t _).trans (entry_gain m c o)) (fun o => (block6 m c t _).trans (entry_shift m c o)) o

/-- **After the run the result array holds, row by row, two layers and the normalization.** -/
theorem final (c : Dev nD) : (dats m 0 c).arrAt 7 cfg0.N = resultArr m c := by
  refine (dats m 0 c).arrAt_eq_of_covers 7 _ (by decide +kernel) fun t hf y => ?_
  blk_simp
  rw [after0_7]
  obtain ⟨r, o, rfl⟩ : ∃ (r : Fin 512) (o : Fin 256), y = ix2 r o := ⟨y 0, y 1, ValueIdx.eq_ix2 y⟩
  refine (point m c t r o).trans ?_
  show _ = resultArr m c (((cfg0.win 7).blk t).view.emb (ix2 r o))
  rw [block7]
  rfl

end Cert.Kan

end
-- ==== Proof.RefValue.lean ====
/-
  The reference's result array, read at an index.
-/
module

public import proofs.«01_k».proof.Proof.Gen.ReferenceIdeal.Read
public import proofs.«01_k».proof.Proof.Consts
public import proofs.«01_k».proof.Proof.Spec
public import Idealize.ShloMosaic.Lib.ValueIdx
public import Idealize.ShloMosaic.Lib.Pointwise

@[expose] public section

set_option maxRecDepth 16384

noncomputable section

namespace Cert.Kan

open Idealize.ShloMosaic hiding ix1 ix2 ix3
open Idealize.ShloMosaic.ValueIdx Cert.ReferenceIdeal Cert.ReferenceIdeal.Read
open scoped BigOperators

/-! ## The knots -/

/-- The whole numbers below twelve, as the reference makes them. -/
theorem count_apply (i : S12.Idx) : val_main_v19 (F := Ideal) i = (((i 0).val : ℝ) : EReal) := by
  have h : ∀ n : Fin 12, (BitVec.ofNat 32 n.val).toInt = (n.val : ℤ) := by decide
  show (((BitVec.ofNat 32 (i 0).val).toInt : ℝ) : EReal) = _
  rw [h (i 0)]
  rfl

/-- The reference's knots. -/
theorem knot_apply (i : S12.Idx) : val_main_v25 (F := Ideal) i = knot (i 0).val := by
  simp only [val_main_v18_apply, val_main_v20_apply, val_main_v21_apply, val_main_v22_apply, val_main_v23_apply, val_main_v24_apply,
    val_main_v25_apply, val_main_cst_3_apply, val_main_cst_4_apply, val_main_cst_5_apply, val_main_cst_6_apply, count_apply]
  exact congrArg₂ (· + ·) (congrArg₂ (· * ·) (congrArg (· + _) ofBits_neg_three) (congrArg₂ Ideal.div ofBits_two ofBits_five)) ofBits_neg_one

/-! ## The two readings every degree shares -/

/-- A product of two comparisons, converted to a float, is the indicator of the half-open interval. -/
theorem indicator_eq (x a b : EReal) :
    FloatOps.uitofp (F := Ideal) .f32 (IntOp.andi (FloatOps.cmpf (F := Ideal) (φ := .f32) .oge x a) (FloatOps.cmpf (F := Ideal) (φ := .f32) .olt x b))
      = if a ≤ x ∧ x < b then (1 : EReal) else 0 := by
  show (((BitVec.ofBool (decide (a ≤ x)) &&& BitVec.ofBool (decide (x < b))).toNat : ℝ) : EReal) = _
  by_cases ha : a ≤ x <;> by_cases hb : x < b <;> simp [ha, hb]

/-- The printed indicator of knot interval `i`, its upper knot counted from the slice's start. -/
theorem ind_of (x : EReal) (i : ℕ) :
    FloatOps.uitofp (F := Ideal) .f32
        (IntOp.andi (FloatOps.cmpf (F := Ideal) (φ := .f32) .oge x (knot i)) (FloatOps.cmpf (F := Ideal) (φ := .f32) .olt x (knot (1 + i))))
      = ind x i := by
  rw [indicator_eq, Nat.add_comm 1 i]
  rfl

/-- The printed step of the recursion, its knots and its lower splines counted from each slice's start. -/
theorem rstep_of (k : ℕ) (x : EReal) (b : ℕ → EReal) (i : ℕ) :
    Ideal.div (x - knot i) (knot (k + i) - knot i) * b i + Ideal.div (knot (k + 1 + i) - x) (knot (k + 1 + i) - knot (1 + i)) * b (1 + i)
      = rstep k x b i := by
  rw [Nat.add_comm k i, Nat.add_comm (k + 1) i, Nat.add_comm 1 i]
  rfl

/-! ## The basis of the first layer -/

/-- The points of the first layer, over a third axis of one. -/
theorem pt_first_apply (x0 : FVec Ideal S65536x256 .f32) (i : S65536x256x1.Idx) :
    val_main_v27 (F := Ideal) x0 i = x0 (ix2 (i 0) (i 1)) := by
  rw [val_main_v27_apply]
  exact congrArg x0 (ValueIdx.eq_ix2 _)

/-- The indicators of the first layer, at a point. -/
theorem ind_first_apply (x0 : FVec Ideal S65536x256 .f32) (i : S65536x256x11.Idx) :
    val_main_v39 (F := Ideal) x0 i = ind (x0 (ix2 (i 0) (i 1))) (i 2).val := by
  simp only [val_main_v26_apply, val_main_v28_apply, val_main_v29_apply, val_main_v30_apply, val_main_v31_apply, val_main_v32_apply,
    val_main_v33_apply, val_main_v34_apply, val_main_v35_apply, val_main_v36_apply, val_main_v37_apply, val_main_v38_apply,
    val_main_v39_apply, pt_first_apply, knot_apply]
  exact ind_of _ _

/-- The linear basis functions of the first layer, at a point. -/
theorem deg1_first_apply (x0 : FVec Ideal S65536x256 .f32) (i : S65536x256x10.Idx) :
    val_main_v66 (F := Ideal) x0 i
      = rstep 1 (x0 (ix2 (i 0) (i 1))) (ind (x0 (ix2 (i 0) (i 1)))) (i 2).val := by
  simp only [val_main_v26_apply, val_main_v40_apply, val_main_v41_apply, val_main_v42_apply, val_main_v43_apply, val_main_v44_apply,
    val_main_v45_apply, val_main_v46_apply, val_main_v47_apply, val_main_v48_apply, val_main_v49_apply, val_main_v50_apply,
    val_main_v51_apply, val_main_v52_apply, val_main_v53_apply, val_main_v54_apply, val_main_v55_apply, val_main_v56_apply,
    val_main_v57_apply, val_main_v58_apply, val_main_v59_apply, val_main_v60_apply, val_main_v61_apply, val_main_v62_apply,
    val_main_v63_apply, val_main_v64_apply, val_main_v65_apply, val_main_v66_apply, pt_first_apply, knot_apply, ind_first_apply]
  exact rstep_of 1 _ _ _

/-- The quadratic basis functions of the first layer, at a point. -/
theorem deg2_first_apply (x0 : FVec Ideal S65536x256 .f32) (i : S65536x256x9.Idx) :
    val_main_v93 (F := Ideal) x0 i
      = rstep 2 (x0 (ix2 (i 0) (i 1))) (rstep 1 (x0 (ix2 (i 0) (i 1))) (ind (x0 (ix2 (i 0) (i 1))))) (i 2).val := by
  simp only [val_main_v26_apply, val_main_v67_apply, val_main_v68_apply, val_main_v69_apply, val_main_v70_apply, val_main_v71_apply,
    val_main_v72_apply, val_main_v73_apply, val_main_v74_apply, val_main_v75_apply, val_main_v76_apply, val_main_v77_apply,
    val_main_v78_apply, val_main_v79_apply, val_main_v80_apply, val_main_v81_apply, val_main_v82_apply, val_main_v83_apply,
    val_main_v84_apply, val_main_v85_apply, val_main_v86_apply, val_main_v87_apply, val_main_v88_apply, val_main_v89_apply,
    val_main_v90_apply, val_main_v91_apply, val_main_v92_apply, val_main_v93_apply, pt_first_apply, knot_apply, deg1_first_apply]
  exact rstep_of 2 _ _ _

/-- The cubic basis functions of the first layer, at a point. -/
theorem deg3_first_apply (x0 : FVec Ideal S65536x256 .f32) (i : S65536x256x8.Idx) :
    val_main_v120 (F := Ideal) x0 i
      = rstep 3 (x0 (ix2 (i 0) (i 1))) (rstep 2 (x0 (ix2 (i 0) (i 1))) (rstep 1 (x0 (ix2 (i 0) (i 1))) (ind (x0 (ix2 (i 0) (i 1)))))) (i 2).val := by
  simp only [val_main_v26_apply, val_main_v94_apply, val_main_v95_apply, val_main_v96_apply, val_main_v97_apply, val_main_v98_apply,
    val_main_v99_apply, val_main_v100_apply, val_main_v101_apply, val_main_v102_apply, val_main_v103_apply, val_main_v104_apply,
    val_main_v105_apply, val_main_v106_apply, val_main_v107_apply, val_main_v108_apply, val_main_v109_apply, val_main_v110_apply,
    val_main_v111_apply, val_main_v112_apply, val_main_v113_apply, val_main_v114_apply, val_main_v115_apply, val_main_v116_apply,
    val_main_v117_apply, val_main_v118_apply, val_main_v119_apply, val_main_v120_apply, pt_first_apply, knot_apply,
    deg2_first_apply]
  exact rstep_of 3 _ _ _

/-! ## The first layer -/

/-- The base path's gelu of the first layer. -/
theorem gelu_first_apply (x0 : FVec Ideal S65536x256 .f32) (i : S65536x256.Idx) : val_main_v12 (F := Ideal) x0 i = gelu (x0 i) := by
  simp only [val_main_v0_apply, val_main_v1_apply, val_main_v2_apply, val_main_v3_apply, val_main_v4_apply, val_main_v5_apply,
    val_main_v6_apply, val_main_v7_apply, val_main_v8_apply, val_main_v9_apply, val_main_v10_apply, val_main_v11_apply,
    val_main_v12_apply, val_main_cst_apply, val_main_cst_0_apply, val_main_cst_1_apply, val_main_cst_2_apply]
  rfl

/-- The spline product of the first layer: over the basis functions and the inputs. -/
theorem dot_first_apply (b : FVec Ideal S65536x256x8 .f32) (w : FVec Ideal S512x256x8 .f32) (n : Fin 65536) (o : Fin 512) :
    Host.dotGeneral dot_S65536x256x8_S512x256x8_S65536x512_21_21_0_0_n_n none b w (ix2 n o)
      = ∑ g : Fin 8, ∑ c : Fin 256, b (ix3 n c g) * w (ix3 o c g) := by
  pointwise
  rfl

/-- The first layer's result. -/
theorem layer_first_apply (x0 : FVec Ideal S65536x256 .f32) (x1 : FVec Ideal S512x256 .f32) (x2 : FVec Ideal S512x256x8 .f32)
    (x3 : FVec Ideal S512x256 .f32) (n : Fin 65536) (o : Fin 512) :
    val_main_v122 (F := Ideal) x0 x1 x2 x3 (ix2 n o)
      = layer (fun c => x0 (ix2 n c)) (fun o c => x1 (ix2 o c)) (fun o c g => x2 (ix3 o c g)) (fun o c => x3 (ix2 o c)) o := by
  rw [val_main_v122_apply, val_main_v14_apply]
  refine congrArg₂ (· + ·) (Finset.sum_congr rfl fun c _ => ?_) ((dot_first_apply _ _ n o).trans
    (Finset.sum_congr rfl fun g _ => Finset.sum_congr rfl fun c _ => congrArg₂ (· * ·) (deg3_first_apply x0 (ix3 n c g)) ?_))
  · rw [gelu_first_apply, val_main_v13_apply]
    exact congrArg₂ (fun a b => gelu a * b) (congrArg x0 (ValueIdx.eq_ix2 _)) (congrArg x1 (ValueIdx.eq_ix2 _))
  · rw [val_main_v17_apply, val_main_v16_apply, val_main_v15_apply]
    exact congrArg (x2 (ix3 o c g) * ·) (congrArg x3 (ValueIdx.eq_ix2 _))

/-- The second layer's knots are the first's. -/
theorem knot_apply_second (i : S12.Idx) : val_main_v148 (F := Ideal) i = knot (i 0).val := knot_apply i

/-! ## The basis of the second layer -/

/-- The points of the second layer, over a third axis of one. -/
theorem pt_second_apply (x0 : FVec Ideal S65536x256 .f32) (x1 : FVec Ideal S512x256 .f32) (x2 : FVec Ideal S512x256x8 .f32)
    (x3 : FVec Ideal S512x256 .f32) (i : S65536x512x1.Idx) :
    val_main_v150 (F := Ideal) x0 x1 x2 x3 i = val_main_v122 (F := Ideal) x0 x1 x2 x3 (ix2 (i 0) (i 1)) := by
  rw [val_main_v150_apply]
  generalize val_main_v122 (F := Ideal) x0 x1 x2 x3 = y
  exact congrArg y (ValueIdx.eq_ix2 _)

/-- The indicators of the second layer, at a point. -/
theorem ind_second_apply (x0 : FVec Ideal S65536x256 .f32) (x1 : FVec Ideal S512x256 .f32) (x2 : FVec Ideal S512x256x8 .f32)
    (x3 : FVec Ideal S512x256 .f32) (i : S65536x512x11.Idx) :
    val_main_v162 (F := Ideal) x0 x1 x2 x3 i = ind (val_main_v122 (F := Ideal) x0 x1 x2 x3 (ix2 (i 0) (i 1))) (i 2).val := by
  simp only [val_main_v149_apply, val_main_v151_apply, val_main_v152_apply, val_main_v153_apply, val_main_v154_apply,
    val_main_v155_apply, val_main_v156_apply, val_main_v157_apply, val_main_v158_apply, val_main_v159_apply, val_main_v160_apply,
    val_main_v161_apply, val_main_v162_apply, pt_second_apply, knot_apply_second]
  generalize val_main_v122 (F := Ideal) x0 x1 x2 x3 = y
  exact ind_of _ _

/-- The linear basis functions of the second layer, at a point. -/
theorem deg1_second_apply (x0 : FVec Ideal S65536x256 .f32) (x1 : FVec Ideal S512x256 .f32) (x2 : FVec Ideal S512x256x8 .f32)
    (x3 : FVec Ideal S512x256 .f32) (i : S65536x512x10.Idx) :
    val_main_v189 (F := Ideal) x0 x1 x2 x3 i
      = rstep 1 (val_main_v122 (F := Ideal) x0 x1 x2 x3 (ix2 (i 0) (i 1))) (ind (val_main_v122 (F := Ideal) x0 x1 x2 x3 (ix2 (i 0) (i 1)))) (i 2).val := by
  simp only [val_main_v149_apply, val_main_v163_apply, val_main_v164_apply, val_main_v165_apply, val_main_v166_apply,
    val_main_v167_apply, val_main_v168_apply, val_main_v169_apply, val_main_v170_apply, val_main_v171_apply, val_main_v172_apply,
    val_main_v173_apply, val_main_v174_apply, val_main_v175_apply, val_main_v176_apply, val_main_v177_apply, val_main_v178_apply,
    val_main_v179_apply, val_main_v180_apply, val_main_v181_apply, val_main_v182_apply, val_main_v183_apply, val_main_v184_apply,
    val_main_v185_apply, val_main_v186_apply, val_main_v187_apply, val_main_v188_apply, val_main_v189_apply, pt_second_apply,
    knot_apply_second, ind_second_apply]
  generalize val_main_v122 (F := Ideal) x0 x1 x2 x3 = y
  exact rstep_of 1 _ _ _

/-- The quadratic basis functions of the second layer, at a point. -/
theorem deg2_second_apply (x0 : FVec Ideal S65536x256 .f32) (x1 : FVec Ideal S512x256 .f32) (x2 : FVec Ideal S512x256x8 .f32)
    (x3 : FVec Ideal S512x256 .f32) (i : S65536x512x9.Idx) :
    val_main_v216 (F := Ideal) x0 x1 x2 x3 i
      = rstep 2 (val_main_v122 (F := Ideal) x0 x1 x2 x3 (ix2 (i 0) (i 1))) (rstep 1 (val_main_v122 (F := Ideal) x0 x1 x2 x3 (ix2 (i 0) (i 1))) (ind (val_main_v122 (F := Ideal) x0 x1 x2 x3 (ix2 (i 0) (i 1))))) (i 2).val := by
  simp only [val_main_v149_apply, val_main_v190_apply, val_main_v191_apply, val_main_v192_apply, val_main_v193_apply,
    val_main_v194_apply, val_main_v195_apply, val_main_v196_apply, val_main_v197_apply, val_main_v198_apply, val_main_v199_apply,
    val_main_v200_apply, val_main_v201_apply, val_main_v202_apply, val_main_v203_apply, val_main_v204_apply, val_main_v205_apply,
    val_main_v206_apply, val_main_v207_apply, val_main_v208_apply, val_main_v209_apply, val_main_v210_apply, val_main_v211_apply,
    val_main_v212_apply, val_main_v213_apply, val_main_v214_apply, val_main_v215_apply, val_main_v216_apply, pt_second_apply,
    knot_apply_second, deg1_second_apply]
  generalize val_main_v122 (F := Ideal) x0 x1 x2 x3 = y
  exact rstep_of 2 _ _ _

/-- The cubic basis functions of the second layer, at a point. -/
theorem deg3_second_apply (x0 : FVec Ideal S65536x256 .f32) (x1 : FVec Ideal S512x256 .f32) (x2 : FVec Ideal S512x256x8 .f32)
    (x3 : FVec Ideal S512x256 .f32) (i : S65536x512x8.Idx) :
    val_main_v243 (F := Ideal) x0 x1 x2 x3 i
      = rstep 3 (val_main_v122 (F := Ideal) x0 x1 x2 x3 (ix2 (i 0) (i 1))) (rstep 2 (val_main_v122 (F := Ideal) x0 x1 x2 x3 (ix2 (i 0) (i 1))) (rstep 1 (val_main_v122 (F := Ideal) x0 x1 x2 x3 (ix2 (i 0) (i 1))) (ind (val_main_v122 (F := Ideal) x0 x1 x2 x3 (ix2 (i 0) (i 1)))))) (i 2).val := by
  simp only [val_main_v149_apply, val_main_v217_apply, val_main_v218_apply, val_main_v219_apply, val_main_v220_apply,
    val_main_v221_apply, val_main_v222_apply, val_main_v223_apply, val_main_v224_apply, val_main_v225_apply, val_main_v226_apply,
    val_main_v227_apply, val_main_v228_apply, val_main_v229_apply, val_main_v230_apply, val_main_v231_apply, val_main_v232_apply,
    val_main_v233_apply, val_main_v234_apply, val_main_v235_apply, val_main_v236_apply, val_main_v237_apply, val_main_v238_apply,
    val_main_v239_apply, val_main_v240_apply, val_main_v241_apply, val_main_v242_apply, val_main_v243_apply, pt_second_apply,
    knot_apply_second, deg2_second_apply]
  generalize val_main_v122 (F := Ideal) x0 x1 x2 x3 = y
  exact rstep_of 3 _ _ _

/-! ## The second layer -/

/-- The base path's gelu of the second layer. -/
theorem gelu_second_apply (x0 : FVec Ideal S65536x256 .f32) (x1 : FVec Ideal S512x256 .f32) (x2 : FVec Ideal S512x256x8 .f32)
    (x3 : FVec Ideal S512x256 .f32) (i : S65536x512.Idx) :
    val_main_v135 (F := Ideal) x0 x1 x2 x3 i = gelu (val_main_v122 (F := Ideal) x0 x1 x2 x3 i) := by
  simp only [val_main_v123_apply, val_main_v124_apply, val_main_v125_apply, val_main_v126_apply, val_main_v127_apply,
    val_main_v128_apply, val_main_v129_apply, val_main_v130_apply, val_main_v131_apply, val_main_v132_apply, val_main_v133_apply,
    val_main_v134_apply, val_main_v135_apply, val_main_cst_7_apply, val_main_cst_8_apply, val_main_cst_9_apply, val_main_cst_10_apply]
  rfl

/-- The spline product of the second layer: over the basis functions and the inputs. -/
theorem dot_second_apply (b : FVec Ideal S65536x512x8 .f32) (w : FVec Ideal S256x512x8 .f32) (n : Fin 65536) (o : Fin 256) :
    Host.dotGeneral dot_S65536x512x8_S256x512x8_S65536x256_21_21_0_0_n_n none b w (ix2 n o)
      = ∑ g : Fin 8, ∑ c : Fin 512, b (ix3 n c g) * w (ix3 o c g) := by
  pointwise
  rfl

/-- The second layer's result, over the first's. -/
theorem layer_second_apply (x0 : FVec Ideal S65536x256 .f32) (x1 : FVec Ideal S512x256 .f32) (x2 : FVec Ideal S512x256x8 .f32)
    (x3 : FVec Ideal S512x256 .f32) (x4 : FVec Ideal S256x512 .f32) (x5 : FVec Ideal S256x512x8 .f32)
    (x6 : FVec Ideal S256x512 .f32) (n : Fin 65536) (o : Fin 256) :
    val_main_v245 (F := Ideal) x0 x1 x2 x3 x4 x5 x6 (ix2 n o)
      = layer (fun c => val_main_v122 (F := Ideal) x0 x1 x2 x3 (ix2 n c)) (fun o c => x4 (ix2 o c)) (fun o c g => x5 (ix3 o c g))
          (fun o c => x6 (ix2 o c)) o := by
  rw [val_main_v245_apply, val_main_v137_apply]
  refine congrArg₂ (· + ·) (Finset.sum_congr rfl fun c _ => ?_) ((dot_second_apply _ _ n o).trans
    (Finset.sum_congr rfl fun g _ => Finset.sum_congr rfl fun c _ => congrArg₂ (· * ·) (deg3_second_apply x0 x1 x2 x3 (ix3 n c g)) ?_))
  · rw [gelu_second_apply, val_main_v136_apply]
    exact congrArg₂ (fun a b => gelu a * b) (congrArg (val_main_v122 (F := Ideal) x0 x1 x2 x3) (ValueIdx.eq_ix2 _))
      (congrArg x4 (ValueIdx.eq_ix2 _))
  · rw [val_main_v140_apply, val_main_v139_apply, val_main_v138_apply]
    exact congrArg (x5 (ix3 o c g) * ·) (congrArg x6 (ValueIdx.eq_ix2 _))

/-! ## The normalization -/

/-- The mean of a row of the second layer's result. -/
theorem mean_apply (x0 : FVec Ideal S65536x256 .f32) (x1 : FVec Ideal S512x256 .f32) (x2 : FVec Ideal S512x256x8 .f32)
    (x3 : FVec Ideal S512x256 .f32) (x4 : FVec Ideal S256x512 .f32) (x5 : FVec Ideal S256x512x8 .f32)
    (x6 : FVec Ideal S256x512 .f32) (i : S65536x1.Idx) :
    val_main_v249 (F := Ideal) x0 x1 x2 x3 x4 x5 x6 i
      = mean (fun k => val_main_v245 (F := Ideal) x0 x1 x2 x3 x4 x5 x6 (ix2 (i 0) k)) := by
  simp only [val_main_v246_apply, val_main_v247_apply, val_main_v248_apply, val_main_v249_apply, val_main_cst_15_apply,
    val_main_cst_16_apply]
  generalize val_main_v245 (F := Ideal) x0 x1 x2 x3 x4 x5 x6 = h
  exact congrArg (Ideal.div · _) ((congrArg (· + _) Ideal.ofBits_zero_f32).trans
    ((zero_add _).trans (Finset.sum_congr rfl fun k _ => congrArg h (ValueIdx.eq_ix2 _))))

/-- The variance of a row of the second layer's result: the mean of the squared distances from its mean. -/
theorem variance_apply (x0 : FVec Ideal S65536x256 .f32) (x1 : FVec Ideal S512x256 .f32) (x2 : FVec Ideal S512x256x8 .f32)
    (x3 : FVec Ideal S512x256 .f32) (x4 : FVec Ideal S256x512 .f32) (x5 : FVec Ideal S256x512x8 .f32)
    (x6 : FVec Ideal S256x512 .f32) (i : S65536x1.Idx) :
    val_main_v256 (F := Ideal) x0 x1 x2 x3 x4 x5 x6 i
      = mean (fun k => (val_main_v245 (F := Ideal) x0 x1 x2 x3 x4 x5 x6 (ix2 (i 0) k)
            - mean (fun k' => val_main_v245 (F := Ideal) x0 x1 x2 x3 x4 x5 x6 (ix2 (i 0) k')))
          * (val_main_v245 (F := Ideal) x0 x1 x2 x3 x4 x5 x6 (ix2 (i 0) k)
            - mean (fun k' => val_main_v245 (F := Ideal) x0 x1 x2 x3 x4 x5 x6 (ix2 (i 0) k')))) := by
  simp only [val_main_v250_apply, val_main_v251_apply, val_main_v252_apply, val_main_v253_apply, val_main_v254_apply,
    val_main_v255_apply, val_main_v256_apply, val_main_cst_17_apply, val_main_cst_18_apply, mean_apply]
  generalize val_main_v245 (F := Ideal) x0 x1 x2 x3 x4 x5 x6 = h
  refine congrArg (Ideal.div · _) ((congrArg (· + _) Ideal.ofBits_zero_f32).trans
    ((zero_add _).trans (Finset.sum_congr rfl fun k _ => ?_)))
  exact congrArg (fun a => (a - mean fun k' => h (ix2 (i 0) k')) * (a - mean fun k' => h (ix2 (i 0) k')))
    (congrArg h (ValueIdx.eq_ix2 _))

/-- The normalized result at an index, over the second layer's result. -/
theorem norm_row_apply (x0 : FVec Ideal S65536x256 .f32) (x1 : FVec Ideal S512x256 .f32) (x2 : FVec Ideal S512x256x8 .f32)
    (x3 : FVec Ideal S512x256 .f32) (x4 : FVec Ideal S256x512 .f32) (x5 : FVec Ideal S256x512x8 .f32)
    (x6 : FVec Ideal S256x512 .f32) (x7 x8 : FVec Ideal S256 .f32) (n : Fin 65536) (o : Fin 256) :
    val_main_v269 (F := Ideal) x0 x1 x2 x3 x4 x5 x6 x7 x8 (ix2 n o)
      = norm (fun k => val_main_v245 (F := Ideal) x0 x1 x2 x3 x4 x5 x6 (ix2 n k)) (fun o => x7 (ix1 o)) (fun o => x8 (ix1 o)) o := by
  simp only [val_main_v257_apply, val_main_v258_apply, val_main_v259_apply, val_main_v260_apply, val_main_v261_apply,
    val_main_v262_apply, val_main_v263_apply, val_main_v264_apply, val_main_v265_apply, val_main_v266_apply, val_main_v267_apply,
    val_main_v268_apply, val_main_v269_apply, val_main_cst_19_apply, mean_apply, variance_apply]
  generalize val_main_v245 (F := Ideal) x0 x1 x2 x3 x4 x5 x6 = h
  exact congrArg₂ (fun a b => (h (ix2 n o) - mean fun k => h (ix2 n k)) * Ideal.rsqrt (mean (fun k => (h (ix2 n k)
      - mean fun k' => h (ix2 n k')) * (h (ix2 n k) - mean fun k' => h (ix2 n k'))) + Ideal.ofBits .f32 0x3727C5AC#32) * a + b)
    (congrArg x7 (ValueIdx.eq_ix1 _)) (congrArg x8 (ValueIdx.eq_ix1 _))

/-- The reference's result at an index. -/
theorem result_apply (x0 : FVec Ideal S65536x256 .f32) (x1 : FVec Ideal S512x256 .f32) (x2 : FVec Ideal S512x256x8 .f32)
    (x3 : FVec Ideal S512x256 .f32) (x4 : FVec Ideal S256x512 .f32) (x5 : FVec Ideal S256x512x8 .f32)
    (x6 : FVec Ideal S256x512 .f32) (x7 x8 : FVec Ideal S256 .f32) (n : Fin 65536) (o : Fin 256) :
    val_main_v269 (F := Ideal) x0 x1 x2 x3 x4 x5 x6 x7 x8 (ix2 n o)
      = norm (layer (layer (fun c => x0 (ix2 n c)) (fun o c => x1 (ix2 o c)) (fun o c g => x2 (ix3 o c g)) (fun o c => x3 (ix2 o c)))
          (fun o c => x4 (ix2 o c)) (fun o c g => x5 (ix3 o c g)) (fun o c => x6 (ix2 o c)))
          (fun o => x7 (ix1 o)) (fun o => x8 (ix1 o)) o := by
  refine (norm_row_apply x0 x1 x2 x3 x4 x5 x6 x7 x8 n o).trans (congrArg (fun h => norm h _ _ o) (funext fun k => ?_))
  exact (layer_second_apply x0 x1 x2 x3 x4 x5 x6 n k).trans (congrArg (fun r => layer r _ _ _ k) (funext fun c => layer_first_apply x0 x1 x2 x3 n c))

end Cert.Kan

end
-- ==== Proof.Claims.lean ====
/-
  The five claims: the frames, the named constant, and the equality of the two result arrays.
-/
module

public import proofs.«01_k».proof.Defs
public import proofs.«01_k».proof.Proof.Gen.Kernel.Frame
public import proofs.«01_k».proof.Proof.Gen.ReferenceIdeal.Run
public import proofs.«01_k».proof.Proof.KernelValue
public import proofs.«01_k».proof.Proof.RefValue
public import Idealize.ShloMosaic.Lib.Quiescent

@[expose] public section

noncomputable section

namespace Cert.Kan

open Idealize.ShloMosaic hiding ix1 ix2 ix3
open Idealize.ShloMosaic.TcCoe Idealize.ShloMosaic.ValueIdx Idealize.SL.Sem

/-- The kernel as written runs to completion, its arguments unchanged and its counters at zero. -/
theorem frame_p : Cert.quiescent_Kernel := fun m ρ _ => Cert.Kernel.Gen.frame m ρ

/-- The idealized kernel runs to completion, its arguments unchanged and its counters at zero. -/
theorem frame_pi : Cert.quiescent_KernelIdeal := fun m ρ _ => Cert.KernelIdeal.Gen.frame m ρ

/-- The reference runs to completion, its arguments unchanged and its counters at zero. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The first knot's printed constant carries the name whose value is `-11/5`. -/
theorem preserves : Cert.preserves_Kernel_KernelIdeal :=
  IdealRules.named_const.statement Cert.KernelIdeal.κ "knot0" .f32 0xC00CCCCD#32 ((-11 / 5 : ℝ) : EReal) rfl

/-- The reference's result, of arguments the kernel's memory holds, is the kernel's result array. -/
theorem reference_eq (m : (ℓ : Loc Cert.KernelIdeal.nD Cert.KernelIdeal.τ Cert.KernelIdeal.sig) → Buf (Elt Ideal) ℓ)
    (c : Dev Cert.KernelIdeal.nD) {x0 : FVec Ideal Cert.ReferenceIdeal.S65536x256 .f32} {x1 : FVec Ideal Cert.ReferenceIdeal.S512x256 .f32}
    {x2 : FVec Ideal Cert.ReferenceIdeal.S512x256x8 .f32} {x3 : FVec Ideal Cert.ReferenceIdeal.S512x256 .f32}
    {x4 : FVec Ideal Cert.ReferenceIdeal.S256x512 .f32} {x5 : FVec Ideal Cert.ReferenceIdeal.S256x512x8 .f32}
    {x6 : FVec Ideal Cert.ReferenceIdeal.S256x512 .f32} {x7 x8 : FVec Ideal Cert.ReferenceIdeal.S256 .f32}
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2))
    (h3 : x3 = m ((c.tc : Thread Cert.KernelIdeal.nD Cert.KernelIdeal.τ).loc Cert.KernelIdeal.main_arg3))
    (h4 : x4 = m ((c.tc : Thread Cert.KernelIdeal.nD Cert.KernelIdeal.τ).loc Cert.KernelIdeal.main_arg4))
    (h5 : x5 = m ((c.tc : Thread Cert.KernelIdeal.nD Cert.KernelIdeal.τ).loc Cert.KernelIdeal.main_arg5))
    (h6 : x6 = m ((c.tc : Thread Cert.KernelIdeal.nD Cert.KernelIdeal.τ).loc Cert.KernelIdeal.main_arg6))
    (h7 : x7 = m ((c.tc : Thread Cert.KernelIdeal.nD Cert.KernelIdeal.τ).loc Cert.KernelIdeal.main_arg7))
    (h8 : x8 = m ((c.tc : Thread Cert.KernelIdeal.nD Cert.KernelIdeal.τ).loc Cert.KernelIdeal.main_arg8)) :
    Cert.ReferenceIdeal.Read.val_main_v269 (F := Ideal) x0 x1 x2 x3 x4 x5 x6 x7 x8 = resultArr m c := by
  subst h0 h1 h2 h3 h4 h5 h6 h7 h8
  funext i
  obtain ⟨n, o, rfl⟩ : ∃ (n : Fin 65536) (o : Fin 256), i = ix2 n o := ⟨i 0, i 1, ValueIdx.eq_ix2 i⟩
  exact result_apply _ _ _ _ _ _ _ _ _ n o

/-- From memories holding the same arguments, the kernel and the reference end with the same result array. -/
theorem algebraic : Cert.algebraic_KernelIdeal_ReferenceIdeal := by
  intro m ρ m' ρ' _ hagree
  refine ⟨_, (θ_run Cert.KernelIdeal.defs _ _).mono (fun _ h c => ⟨(h c).1.trans (final m c), (h c).2⟩)
    (Cert.KernelIdeal.Value.run_blocks m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  exact (Cert.ReferenceIdeal.Read.val_main_v269_eq _).trans (reference_eq m c h0 h1 h2 h3 h4 h5 h6 h7 h8)

end Cert.Kan

end
-- ==== Proof.lean ====
/-
  The proof of the certificate's claim: the witnesses of the programs' stated facts, then the five claims.
-/
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal

@[expose] public section

noncomputable section

namespace Cert.Proof

/-- Everything the certificate claims: three frames, the named constant, and the equality of the two result arrays. -/
theorem claim : Cert.Claim :=
  ⟨Cert.Kernel.Gen.facts, Cert.KernelIdeal.Gen.facts, Cert.ReferenceIdeal.Gen.facts,
    Cert.Kan.frame_p, Cert.Kan.frame_pi, Cert.Kan.frame_ri, Cert.Kan.preserves, Cert.Kan.algebraic⟩

end Cert.Proof

end
